-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hNorm : Cert.Norm.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ preserves_Kernel_KernelIdeal
    ∧ algebraic_KernelIdeal_ReferenceIdeal (hKernelIdeal := hKernelIdeal) (hReferenceIdeal := hReferenceIdeal)
-- ==== Kernel.lean ====
abbrev S7168x12800 : Shape := ⟨2, ![7168, 12800]⟩
abbrev S7168x1 : Shape := ⟨2, ![7168, 1]⟩
abbrev S12800x8192 : Shape := ⟨2, ![12800, 8192]⟩
abbrev S1x8192 : Shape := ⟨2, ![1, 8192]⟩
abbrev S7168x128 : Shape := ⟨2, ![7168, 128]⟩
abbrev S7168x8192 : Shape := ⟨2, ![7168, 8192]⟩
abbrev S512x12800 : Shape := ⟨2, ![512, 12800]⟩
abbrev S512x128 : Shape := ⟨2, ![512, 128]⟩
abbrev S12800x512 : Shape := ⟨2, ![12800, 512]⟩
abbrev S1x512 : Shape := ⟨2, ![1, 512]⟩
abbrev S512x512 : Shape := ⟨2, ![512, 512]⟩
abbrev S16x512x512 : Shape := ⟨3, ![16, 512, 512]⟩
abbrev S512 : Shape := ⟨1, ![512]⟩
abbrev S512x1 : Shape := ⟨2, ![512, 1]⟩
abbrev S1x32x128 : Shape := ⟨3, ![1, 32, 128]⟩
abbrev S32x128 : Shape := ⟨2, ![32, 128]⟩
abbrev S1x128 : Shape := ⟨2, ![1, 128]⟩

abbrev nBuf : Space → Nat
  | .hbm => 8
  | .vmem => 18
  | .smem => 0
  | _ => 0

abbrev bufTy : (tb : Table) → Fin (tcTables nBuf tb) → BufTy
  | .hbm, ⟨0, _⟩ => ⟨S7168x12800, .fp8e4m3⟩
  | .hbm, ⟨1, _⟩ => ⟨S7168x1, .f32⟩
  | .hbm, ⟨2, _⟩ => ⟨S12800x8192, .fp8e4m3⟩
  | .hbm, ⟨3, _⟩ => ⟨S1x8192, .f32⟩
  | .hbm, ⟨4, _⟩ => ⟨S1x8192, .f32⟩
  | .hbm, ⟨5, _⟩ => ⟨S7168x128, .f32⟩
  | .hbm, ⟨6, _⟩ => ⟨S7168x8192, .fp8e4m3⟩
  | .hbm, ⟨7, _⟩ => ⟨S7168x128, .f32⟩
  | .local _ .vmem, ⟨0, _⟩ => ⟨S512x12800, .fp8e4m3⟩
  | .local _ .vmem, ⟨1, _⟩ => ⟨S512x12800, .fp8e4m3⟩
  | .local _ .vmem, ⟨2, _⟩ => ⟨S512x128, .f32⟩
  | .local _ .vmem, ⟨3, _⟩ => ⟨S512x128, .f32⟩
  | .local _ .vmem, ⟨4, _⟩ => ⟨S12800x512, .fp8e4m3⟩
  | .local _ .vmem, ⟨5, _⟩ => ⟨S12800x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .fp8e4m3⟩
  | .local _ .vmem, ⟨11, _⟩ => ⟨S512x512, .fp8e4m3⟩
  | .local _ .vmem, ⟨12, _⟩ => ⟨S512x128, .f32⟩
  | .local _ .vmem, ⟨13, _⟩ => ⟨S512x128, .f32⟩
  | .local _ .vmem, ⟨14, _⟩ => ⟨S512x512, .f32⟩
  | .local _ .vmem, ⟨15, _⟩ => ⟨S16x512x512, .f32⟩
  | .local _ .vmem, ⟨16, _⟩ => ⟨S512x128, .f32⟩
  | .local _ .vmem, ⟨17, _⟩ => ⟨S512x128, .f32⟩
  | _, _ => ⟨S7168x12800, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![241], ![false]⟩

def k0_cond3 (i : grid0.Coords) : BitVec 1 :=
  let arg0 : BitVec 32 := BitVec.ofNat 32 (i 0).val
  let c224_i32 : BitVec 32 := 224#32
  let v9 : BitVec 1 := Scalar.cmpi .slt arg0 c224_i32
  let v10 : BitVec 32 := Scalar.extui v9
  let c0_i32_4 : BitVec 32 := 0#32
  let v11 : BitVec 1 := Scalar.cmpi .ne v10 c0_i32_4
  v11

def k0_off1 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v15 : Index := Scalar.indexCast v2
  let c0 : Index := 0#32
  let c0_7 : Index := 0#32
  ![v15.toNat, 0, 0]
def k0_off2 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v26 : Index := Scalar.indexCast v2
  let c0_13 : Index := 0#32
  let c128 : Index := 128#32
  ![v26.toNat, 0, 128]
def k0_off3 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v37 : Index := Scalar.indexCast v2
  let c0_20 : Index := 0#32
  let c256 : Index := 256#32
  ![v37.toNat, 0, 256]
def k0_off4 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v48 : Index := Scalar.indexCast v2
  let c0_27 : Index := 0#32
  let c384 : Index := 384#32
  ![v48.toNat, 0, 384]
def k0_off5 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v59 : Index := Scalar.indexCast v2
  let c32 : Index := 32#32
  let c0_34 : Index := 0#32
  ![v59.toNat, 32, 0]
def k0_off6 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v70 : Index := Scalar.indexCast v2
  let c32_41 : Index := 32#32
  let c128_42 : Index := 128#32
  ![v70.toNat, 32, 128]
def k0_off7 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v81 : Index := Scalar.indexCast v2
  let c32_49 : Index := 32#32
  let c256_50 : Index := 256#32
  ![v81.toNat, 32, 256]
def k0_off8 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v92 : Index := Scalar.indexCast v2
  let c32_57 : Index := 32#32
  let c384_58 : Index := 384#32
  ![v92.toNat, 32, 384]
def k0_off9 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v103 : Index := Scalar.indexCast v2
  let c64 : Index := 64#32
  let c0_65 : Index := 0#32
  ![v103.toNat, 64, 0]
def k0_off10 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v114 : Index := Scalar.indexCast v2
  let c64_72 : Index := 64#32
  let c128_73 : Index := 128#32
  ![v114.toNat, 64, 128]
def k0_off11 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v125 : Index := Scalar.indexCast v2
  let c64_80 : Index := 64#32
  let c256_81 : Index := 256#32
  ![v125.toNat, 64, 256]
def k0_off12 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v136 : Index := Scalar.indexCast v2
  let c64_88 : Index := 64#32
  let c384_89 : Index := 384#32
  ![v136.toNat, 64, 384]
def k0_off13 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v147 : Index := Scalar.indexCast v2
  let c96 : Index := 96#32
  let c0_96 : Index := 0#32
  ![v147.toNat, 96, 0]
def k0_off14 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v158 : Index := Scalar.indexCast v2
  let c96_103 : Index := 96#32
  let c128_104 : Index := 128#32
  ![v158.toNat, 96, 128]
def k0_off15 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v169 : Index := Scalar.indexCast v2
  let c96_111 : Index := 96#32
  let c256_112 : Index := 256#32
  ![v169.toNat, 96, 256]
def k0_off16 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v180 : Index := Scalar.indexCast v2
  let c96_119 : Index := 96#32
  let c384_120 : Index := 384#32
  ![v180.toNat, 96, 384]
def k0_off17 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v191 : Index := Scalar.indexCast v2
  let c128_127 : Index := 128#32
  let c0_128 : Index := 0#32
  ![v191.toNat, 128, 0]
def k0_off18 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v202 : Index := Scalar.indexCast v2
  let c128_135 : Index := 128#32
  let c128_136 : Index := 128#32
  ![v202.toNat, 128, 128]
def k0_off19 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v213 : Index := Scalar.indexCast v2
  let c128_143 : Index := 128#32
  let c256_144 : Index := 256#32
  ![v213.toNat, 128, 256]
def k0_off20 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v224 : Index := Scalar.indexCast v2
  let c128_151 : Index := 128#32
  let c384_152 : Index := 384#32
  ![v224.toNat, 128, 384]
def k0_off21 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v235 : Index := Scalar.indexCast v2
  let c160 : Index := 160#32
  let c0_159 : Index := 0#32
  ![v235.toNat, 160, 0]
def k0_off22 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v246 : Index := Scalar.indexCast v2
  let c160_166 : Index := 160#32
  let c128_167 : Index := 128#32
  ![v246.toNat, 160, 128]
def k0_off23 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v257 : Index := Scalar.indexCast v2
  let c160_174 : Index := 160#32
  let c256_175 : Index := 256#32
  ![v257.toNat, 160, 256]
def k0_off24 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v268 : Index := Scalar.indexCast v2
  let c160_182 : Index := 160#32
  let c384_183 : Index := 384#32
  ![v268.toNat, 160, 384]
def k0_off25 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v279 : Index := Scalar.indexCast v2
  let c192 : Index := 192#32
  let c0_190 : Index := 0#32
  ![v279.toNat, 192, 0]
def k0_off26 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v290 : Index := Scalar.indexCast v2
  let c192_197 : Index := 192#32
  let c128_198 : Index := 128#32
  ![v290.toNat, 192, 128]
def k0_off27 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v301 : Index := Scalar.indexCast v2
  let c192_205 : Index := 192#32
  let c256_206 : Index := 256#32
  ![v301.toNat, 192, 256]
def k0_off28 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v312 : Index := Scalar.indexCast v2
  let c192_213 : Index := 192#32
  let c384_214 : Index := 384#32
  ![v312.toNat, 192, 384]
def k0_off29 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v323 : Index := Scalar.indexCast v2
  let c224 : Index := 224#32
  let c0_221 : Index := 0#32
  ![v323.toNat, 224, 0]
def k0_off30 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v334 : Index := Scalar.indexCast v2
  let c224_228 : Index := 224#32
  let c128_229 : Index := 128#32
  ![v334.toNat, 224, 128]
def k0_off31 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v345 : Index := Scalar.indexCast v2
  let c224_236 : Index := 224#32
  let c256_237 : Index := 256#32
  ![v345.toNat, 224, 256]
def k0_off32 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v356 : Index := Scalar.indexCast v2
  let c224_244 : Index := 224#32
  let c384_245 : Index := 384#32
  ![v356.toNat, 224, 384]
def k0_off33 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v367 : Index := Scalar.indexCast v2
  let c256_252 : Index := 256#32
  let c0_253 : Index := 0#32
  ![v367.toNat, 256, 0]
def k0_off34 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v378 : Index := Scalar.indexCast v2
  let c256_260 : Index := 256#32
  let c128_261 : Index := 128#32
  ![v378.toNat, 256, 128]
def k0_off35 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v389 : Index := Scalar.indexCast v2
  let c256_268 : Index := 256#32
  let c256_269 : Index := 256#32
  ![v389.toNat, 256, 256]
def k0_off36 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v400 : Index := Scalar.indexCast v2
  let c256_276 : Index := 256#32
  let c384_277 : Index := 384#32
  ![v400.toNat, 256, 384]
def k0_off37 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v411 : Index := Scalar.indexCast v2
  let c288 : Index := 288#32
  let c0_284 : Index := 0#32
  ![v411.toNat, 288, 0]
def k0_off38 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v422 : Index := Scalar.indexCast v2
  let c288_291 : Index := 288#32
  let c128_292 : Index := 128#32
  ![v422.toNat, 288, 128]
def k0_off39 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v433 : Index := Scalar.indexCast v2
  let c288_299 : Index := 288#32
  let c256_300 : Index := 256#32
  ![v433.toNat, 288, 256]
def k0_off40 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v444 : Index := Scalar.indexCast v2
  let c288_307 : Index := 288#32
  let c384_308 : Index := 384#32
  ![v444.toNat, 288, 384]
def k0_off41 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v455 : Index := Scalar.indexCast v2
  let c320 : Index := 320#32
  let c0_315 : Index := 0#32
  ![v455.toNat, 320, 0]
def k0_off42 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v466 : Index := Scalar.indexCast v2
  let c320_322 : Index := 320#32
  let c128_323 : Index := 128#32
  ![v466.toNat, 320, 128]
def k0_off43 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v477 : Index := Scalar.indexCast v2
  let c320_330 : Index := 320#32
  let c256_331 : Index := 256#32
  ![v477.toNat, 320, 256]
def k0_off44 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v488 : Index := Scalar.indexCast v2
  let c320_338 : Index := 320#32
  let c384_339 : Index := 384#32
  ![v488.toNat, 320, 384]
def k0_off45 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v499 : Index := Scalar.indexCast v2
  let c352 : Index := 352#32
  let c0_346 : Index := 0#32
  ![v499.toNat, 352, 0]
def k0_off46 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v510 : Index := Scalar.indexCast v2
  let c352_353 : Index := 352#32
  let c128_354 : Index := 128#32
  ![v510.toNat, 352, 128]
def k0_off47 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v521 : Index := Scalar.indexCast v2
  let c352_361 : Index := 352#32
  let c256_362 : Index := 256#32
  ![v521.toNat, 352, 256]
def k0_off48 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v532 : Index := Scalar.indexCast v2
  let c352_369 : Index := 352#32
  let c384_370 : Index := 384#32
  ![v532.toNat, 352, 384]
def k0_off49 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v543 : Index := Scalar.indexCast v2
  let c384_377 : Index := 384#32
  let c0_378 : Index := 0#32
  ![v543.toNat, 384, 0]
def k0_off50 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v554 : Index := Scalar.indexCast v2
  let c384_385 : Index := 384#32
  let c128_386 : Index := 128#32
  ![v554.toNat, 384, 128]
def k0_off51 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v565 : Index := Scalar.indexCast v2
  let c384_393 : Index := 384#32
  let c256_394 : Index := 256#32
  ![v565.toNat, 384, 256]
def k0_off52 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v576 : Index := Scalar.indexCast v2
  let c384_401 : Index := 384#32
  let c384_402 : Index := 384#32
  ![v576.toNat, 384, 384]
def k0_off53 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v587 : Index := Scalar.indexCast v2
  let c416 : Index := 416#32
  let c0_409 : Index := 0#32
  ![v587.toNat, 416, 0]
def k0_off54 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v598 : Index := Scalar.indexCast v2
  let c416_416 : Index := 416#32
  let c128_417 : Index := 128#32
  ![v598.toNat, 416, 128]
def k0_off55 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v609 : Index := Scalar.indexCast v2
  let c416_424 : Index := 416#32
  let c256_425 : Index := 256#32
  ![v609.toNat, 416, 256]
def k0_off56 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v620 : Index := Scalar.indexCast v2
  let c416_432 : Index := 416#32
  let c384_433 : Index := 384#32
  ![v620.toNat, 416, 384]
def k0_off57 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v631 : Index := Scalar.indexCast v2
  let c448 : Index := 448#32
  let c0_440 : Index := 0#32
  ![v631.toNat, 448, 0]
def k0_off58 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v642 : Index := Scalar.indexCast v2
  let c448_447 : Index := 448#32
  let c128_448 : Index := 128#32
  ![v642.toNat, 448, 128]
def k0_off59 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v653 : Index := Scalar.indexCast v2
  let c448_455 : Index := 448#32
  let c256_456 : Index := 256#32
  ![v653.toNat, 448, 256]
def k0_off60 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v664 : Index := Scalar.indexCast v2
  let c448_463 : Index := 448#32
  let c384_464 : Index := 384#32
  ![v664.toNat, 448, 384]
def k0_off61 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v675 : Index := Scalar.indexCast v2
  let c480 : Index := 480#32
  let c0_471 : Index := 0#32
  ![v675.toNat, 480, 0]
def k0_off62 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v686 : Index := Scalar.indexCast v2
  let c480_478 : Index := 480#32
  let c128_479 : Index := 128#32
  ![v686.toNat, 480, 128]
def k0_off63 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v697 : Index := Scalar.indexCast v2
  let c480_486 : Index := 480#32
  let c256_487 : Index := 256#32
  ![v697.toNat, 480, 256]
def k0_off64 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v708 : Index := Scalar.indexCast v2
  let c480_494 : Index := 480#32
  let c384_495 : Index := 384#32
  ![v708.toNat, 480, 384]
def k0_cond4 (i : grid0.Coords) : BitVec 1 :=
  let arg0 : BitVec 32 := BitVec.ofNat 32 (i 0).val
  let c224_i32_5 : BitVec 32 := 224#32
  let v12 : BitVec 1 := Scalar.cmpi .sge arg0 c224_i32_5
  let v13 : BitVec 32 := Scalar.extui v12
  let c0_i32_6 : BitVec 32 := 0#32
  let v14 : BitVec 1 := Scalar.cmpi .ne v13 c0_i32_6
  v14

def k0_off65 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v15 : Index := Scalar.indexCast v2
  let c0 : Index := 0#32
  let c0_7 : Index := 0#32
  ![v15.toNat, 0, 0]
def k0_off66 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v26 : Index := Scalar.indexCast v2
  let c0_13 : Index := 0#32
  let c128 : Index := 128#32
  ![v26.toNat, 0, 128]
def k0_off67 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v37 : Index := Scalar.indexCast v2
  let c0_20 : Index := 0#32
  let c256 : Index := 256#32
  ![v37.toNat, 0, 256]
def k0_off68 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v48 : Index := Scalar.indexCast v2
  let c0_27 : Index := 0#32
  let c384 : Index := 384#32
  ![v48.toNat, 0, 384]
def k0_off69 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v59 : Index := Scalar.indexCast v2
  let c32 : Index := 32#32
  let c0_34 : Index := 0#32
  ![v59.toNat, 32, 0]
def k0_off70 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v70 : Index := Scalar.indexCast v2
  let c32_41 : Index := 32#32
  let c128_42 : Index := 128#32
  ![v70.toNat, 32, 128]
def k0_off71 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v81 : Index := Scalar.indexCast v2
  let c32_49 : Index := 32#32
  let c256_50 : Index := 256#32
  ![v81.toNat, 32, 256]
def k0_off72 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v92 : Index := Scalar.indexCast v2
  let c32_57 : Index := 32#32
  let c384_58 : Index := 384#32
  ![v92.toNat, 32, 384]
def k0_off73 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v103 : Index := Scalar.indexCast v2
  let c64 : Index := 64#32
  let c0_65 : Index := 0#32
  ![v103.toNat, 64, 0]
def k0_off74 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v114 : Index := Scalar.indexCast v2
  let c64_72 : Index := 64#32
  let c128_73 : Index := 128#32
  ![v114.toNat, 64, 128]
def k0_off75 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v125 : Index := Scalar.indexCast v2
  let c64_80 : Index := 64#32
  let c256_81 : Index := 256#32
  ![v125.toNat, 64, 256]
def k0_off76 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v136 : Index := Scalar.indexCast v2
  let c64_88 : Index := 64#32
  let c384_89 : Index := 384#32
  ![v136.toNat, 64, 384]
def k0_off77 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v147 : Index := Scalar.indexCast v2
  let c96 : Index := 96#32
  let c0_96 : Index := 0#32
  ![v147.toNat, 96, 0]
def k0_off78 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v158 : Index := Scalar.indexCast v2
  let c96_103 : Index := 96#32
  let c128_104 : Index := 128#32
  ![v158.toNat, 96, 128]
def k0_off79 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v169 : Index := Scalar.indexCast v2
  let c96_111 : Index := 96#32
  let c256_112 : Index := 256#32
  ![v169.toNat, 96, 256]
def k0_off80 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v180 : Index := Scalar.indexCast v2
  let c96_119 : Index := 96#32
  let c384_120 : Index := 384#32
  ![v180.toNat, 96, 384]
def k0_off81 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v191 : Index := Scalar.indexCast v2
  let c128_127 : Index := 128#32
  let c0_128 : Index := 0#32
  ![v191.toNat, 128, 0]
def k0_off82 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v202 : Index := Scalar.indexCast v2
  let c128_135 : Index := 128#32
  let c128_136 : Index := 128#32
  ![v202.toNat, 128, 128]
def k0_off83 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v213 : Index := Scalar.indexCast v2
  let c128_143 : Index := 128#32
  let c256_144 : Index := 256#32
  ![v213.toNat, 128, 256]
def k0_off84 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v224 : Index := Scalar.indexCast v2
  let c128_151 : Index := 128#32
  let c384_152 : Index := 384#32
  ![v224.toNat, 128, 384]
def k0_off85 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v235 : Index := Scalar.indexCast v2
  let c160 : Index := 160#32
  let c0_159 : Index := 0#32
  ![v235.toNat, 160, 0]
def k0_off86 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v246 : Index := Scalar.indexCast v2
  let c160_166 : Index := 160#32
  let c128_167 : Index := 128#32
  ![v246.toNat, 160, 128]
def k0_off87 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v257 : Index := Scalar.indexCast v2
  let c160_174 : Index := 160#32
  let c256_175 : Index := 256#32
  ![v257.toNat, 160, 256]
def k0_off88 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v268 : Index := Scalar.indexCast v2
  let c160_182 : Index := 160#32
  let c384_183 : Index := 384#32
  ![v268.toNat, 160, 384]
def k0_off89 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v279 : Index := Scalar.indexCast v2
  let c192 : Index := 192#32
  let c0_190 : Index := 0#32
  ![v279.toNat, 192, 0]
def k0_off90 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v290 : Index := Scalar.indexCast v2
  let c192_197 : Index := 192#32
  let c128_198 : Index := 128#32
  ![v290.toNat, 192, 128]
def k0_off91 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v301 : Index := Scalar.indexCast v2
  let c192_205 : Index := 192#32
  let c256_206 : Index := 256#32
  ![v301.toNat, 192, 256]
def k0_off92 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v312 : Index := Scalar.indexCast v2
  let c192_213 : Index := 192#32
  let c384_214 : Index := 384#32
  ![v312.toNat, 192, 384]
def k0_off93 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v323 : Index := Scalar.indexCast v2
  let c224 : Index := 224#32
  let c0_221 : Index := 0#32
  ![v323.toNat, 224, 0]
def k0_off94 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v334 : Index := Scalar.indexCast v2
  let c224_228 : Index := 224#32
  let c128_229 : Index := 128#32
  ![v334.toNat, 224, 128]
def k0_off95 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v345 : Index := Scalar.indexCast v2
  let c224_236 : Index := 224#32
  let c256_237 : Index := 256#32
  ![v345.toNat, 224, 256]
def k0_off96 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v356 : Index := Scalar.indexCast v2
  let c224_244 : Index := 224#32
  let c384_245 : Index := 384#32
  ![v356.toNat, 224, 384]
def k0_off97 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v367 : Index := Scalar.indexCast v2
  let c256_252 : Index := 256#32
  let c0_253 : Index := 0#32
  ![v367.toNat, 256, 0]
def k0_off98 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v378 : Index := Scalar.indexCast v2
  let c256_260 : Index := 256#32
  let c128_261 : Index := 128#32
  ![v378.toNat, 256, 128]
def k0_off99 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v389 : Index := Scalar.indexCast v2
  let c256_268 : Index := 256#32
  let c256_269 : Index := 256#32
  ![v389.toNat, 256, 256]
def k0_off100 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v400 : Index := Scalar.indexCast v2
  let c256_276 : Index := 256#32
  let c384_277 : Index := 384#32
  ![v400.toNat, 256, 384]
def k0_off101 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v411 : Index := Scalar.indexCast v2
  let c288 : Index := 288#32
  let c0_284 : Index := 0#32
  ![v411.toNat, 288, 0]
def k0_off102 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v422 : Index := Scalar.indexCast v2
  let c288_291 : Index := 288#32
  let c128_292 : Index := 128#32
  ![v422.toNat, 288, 128]
def k0_off103 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v433 : Index := Scalar.indexCast v2
  let c288_299 : Index := 288#32
  let c256_300 : Index := 256#32
  ![v433.toNat, 288, 256]
def k0_off104 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v444 : Index := Scalar.indexCast v2
  let c288_307 : Index := 288#32
  let c384_308 : Index := 384#32
  ![v444.toNat, 288, 384]
def k0_off105 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v455 : Index := Scalar.indexCast v2
  let c320 : Index := 320#32
  let c0_315 : Index := 0#32
  ![v455.toNat, 320, 0]
def k0_off106 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v466 : Index := Scalar.indexCast v2
  let c320_322 : Index := 320#32
  let c128_323 : Index := 128#32
  ![v466.toNat, 320, 128]
def k0_off107 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v477 : Index := Scalar.indexCast v2
  let c320_330 : Index := 320#32
  let c256_331 : Index := 256#32
  ![v477.toNat, 320, 256]
def k0_off108 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v488 : Index := Scalar.indexCast v2
  let c320_338 : Index := 320#32
  let c384_339 : Index := 384#32
  ![v488.toNat, 320, 384]
def k0_off109 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v499 : Index := Scalar.indexCast v2
  let c352 : Index := 352#32
  let c0_346 : Index := 0#32
  ![v499.toNat, 352, 0]
def k0_off110 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v510 : Index := Scalar.indexCast v2
  let c352_353 : Index := 352#32
  let c128_354 : Index := 128#32
  ![v510.toNat, 352, 128]
def k0_off111 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v521 : Index := Scalar.indexCast v2
  let c352_361 : Index := 352#32
  let c256_362 : Index := 256#32
  ![v521.toNat, 352, 256]
def k0_off112 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v532 : Index := Scalar.indexCast v2
  let c352_369 : Index := 352#32
  let c384_370 : Index := 384#32
  ![v532.toNat, 352, 384]
def k0_off113 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v543 : Index := Scalar.indexCast v2
  let c384_377 : Index := 384#32
  let c0_378 : Index := 0#32
  ![v543.toNat, 384, 0]
def k0_off114 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v554 : Index := Scalar.indexCast v2
  let c384_385 : Index := 384#32
  let c128_386 : Index := 128#32
  ![v554.toNat, 384, 128]
def k0_off115 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v565 : Index := Scalar.indexCast v2
  let c384_393 : Index := 384#32
  let c256_394 : Index := 256#32
  ![v565.toNat, 384, 256]
def k0_off116 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v576 : Index := Scalar.indexCast v2
  let c384_401 : Index := 384#32
  let c384_402 : Index := 384#32
  ![v576.toNat, 384, 384]
def k0_off117 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v587 : Index := Scalar.indexCast v2
  let c416 : Index := 416#32
  let c0_409 : Index := 0#32
  ![v587.toNat, 416, 0]
def k0_off118 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v598 : Index := Scalar.indexCast v2
  let c416_416 : Index := 416#32
  let c128_417 : Index := 128#32
  ![v598.toNat, 416, 128]
def k0_off119 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v609 : Index := Scalar.indexCast v2
  let c416_424 : Index := 416#32
  let c256_425 : Index := 256#32
  ![v609.toNat, 416, 256]
def k0_off120 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v620 : Index := Scalar.indexCast v2
  let c416_432 : Index := 416#32
  let c384_433 : Index := 384#32
  ![v620.toNat, 416, 384]
def k0_off121 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v631 : Index := Scalar.indexCast v2
  let c448 : Index := 448#32
  let c0_440 : Index := 0#32
  ![v631.toNat, 448, 0]
def k0_off122 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v642 : Index := Scalar.indexCast v2
  let c448_447 : Index := 448#32
  let c128_448 : Index := 128#32
  ![v642.toNat, 448, 128]
def k0_off123 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v653 : Index := Scalar.indexCast v2
  let c448_455 : Index := 448#32
  let c256_456 : Index := 256#32
  ![v653.toNat, 448, 256]
def k0_off124 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v664 : Index := Scalar.indexCast v2
  let c448_463 : Index := 448#32
  let c384_464 : Index := 384#32
  ![v664.toNat, 448, 384]
def k0_off125 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v675 : Index := Scalar.indexCast v2
  let c480 : Index := 480#32
  let c0_471 : Index := 0#32
  ![v675.toNat, 480, 0]
def k0_off126 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v686 : Index := Scalar.indexCast v2
  let c480_478 : Index := 480#32
  let c128_479 : Index := 128#32
  ![v686.toNat, 480, 128]
def k0_off127 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v697 : Index := Scalar.indexCast v2
  let c480_486 : Index := 480#32
  let c256_487 : Index := 256#32
  ![v697.toNat, 480, 256]
def k0_off128 (i : grid0.Coords) : Fin 3 → Nat :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let v708 : Index := Scalar.indexCast v2
  let c480_494 : Index := 480#32
  let c384_495 : Index := 384#32
  ![v708.toNat, 480, 384]
def k0_cond2 (i : grid0.Coords) : BitVec 1 :=
  let arg0 : BitVec 32 := BitVec.ofNat 32 (i 0).val
  let c1_i32 : BitVec 32 := 1#32
  let v0 : BitVec 32 := Scalar.subi arg0 c1_i32
  let c16_i32 : BitVec 32 := 16#32
  let v1 : BitVec 32 := Scalar.addi v0 c16_i32
  let c16_i32_0 : BitVec 32 := 16#32
  let v2 : BitVec 32 := Scalar.remsi v1 c16_i32_0
  let c0_i32_2 : BitVec 32 := 0#32
  let v6 : BitVec 1 := Scalar.cmpi .eq v2 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32 : BitVec 32 := 13#32
  let v17 : BitVec 32 := Scalar.minsi v16 c13_i32
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c13_i32 : BitVec 32 := 13#32
  let v19 : BitVec 32 := Scalar.minsi v18 c13_i32
  let c0_i32_6 : BitVec 32 := 0#32
  let c0_i32_7 : BitVec 32 := 0#32
  ![v19.toNat, c0_i32_6.toNat]

def cc0_transform_2 (i : grid0.Coords) : Fin 2 → Nat :=
  let arg0 : BitVec 32 := BitVec.ofNat 32 (i 0).val
  let c224_i32 : BitVec 32 := 224#32
  let v0 : BitVec 1 := Scalar.cmpi .slt arg0 c224_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c15_i32 : BitVec 32 := 15#32
  let v11 : BitVec 32 := Scalar.select v0 v10 c15_i32
  let c0_i32_3 : BitVec 32 := 0#32
  let c0_i32_4 : BitVec 32 := 0#32
  ![c0_i32_3.toNat, v11.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi v18 c1_i32_6
  let c0_i32_7 : BitVec 32 := 0#32
  let v20 : BitVec 32 := Scalar.maxsi v19 c0_i32_7
  let c16_i32_8 : BitVec 32 := 16#32
  let v21 : BitVec 1 := Scalar.cmpi .slt v1 c16_i32_8
  let c16_i32_9 : BitVec 32 := 16#32
  let c0_i32_10 : BitVec 32 := 0#32
  let v22 : BitVec 1 := Scalar.cmpi .eq c16_i32_9 c0_i32_10
  let c1_i32_11 : BitVec 32 := 1#32
  let v23 : BitVec 32 := Scalar.select v22 c1_i32_11 c16_i32_9
  let v24 : BitVec 32 := Scalar.remsi v1 v23
  let c0_i32_12 : BitVec 32 := 0#32
  let v25 : BitVec 1 := Scalar.cmpi .ne v24 c0_i32_12
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let v29 : BitVec 1 := Scalar.andi v28 v25
  let v30 : BitVec 32 := Scalar.addi v24 v23
  let v31 : BitVec 32 := Scalar.select v29 v30 v24
  let c0_i32_15 : BitVec 32 := 0#32
  let v32 : BitVec 32 := Scalar.select v21 c0_i32_15 v31
  let c0_i32_16 : BitVec 32 := 0#32
  ![v20.toNat, v32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi v18 c1_i32_6
  let c0_i32_7 : BitVec 32 := 0#32
  let v20 : BitVec 32 := Scalar.maxsi v19 c0_i32_7
  let c16_i32_8 : BitVec 32 := 16#32
  let v21 : BitVec 1 := Scalar.cmpi .slt v1 c16_i32_8
  let c16_i32_9 : BitVec 32 := 16#32
  let c0_i32_10 : BitVec 32 := 0#32
  let v22 : BitVec 1 := Scalar.cmpi .eq c16_i32_9 c0_i32_10
  let c1_i32_11 : BitVec 32 := 1#32
  let v23 : BitVec 32 := Scalar.select v22 c1_i32_11 c16_i32_9
  let v24 : BitVec 32 := Scalar.remsi v1 v23
  let c0_i32_12 : BitVec 32 := 0#32
  let v25 : BitVec 1 := Scalar.cmpi .ne v24 c0_i32_12
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let v29 : BitVec 1 := Scalar.andi v28 v25
  let v30 : BitVec 32 := Scalar.addi v24 v23
  let v31 : BitVec 32 := Scalar.select v29 v30 v24
  let c0_i32_15 : BitVec 32 := 0#32
  let v32 : BitVec 32 := Scalar.select v21 c0_i32_15 v31
  let c0_i32_16 : BitVec 32 := 0#32
  let c0_i32_17 : BitVec 32 := 0#32
  ![v20.toNat, c0_i32_16.toNat]

abbrev stage0_0 : Fin 2 → Memref sig .tc .vmem S512x12800 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S7168x12800 : Shape := ⟨2, ![7168, 12800]⟩
abbrev S7168x1 : Shape := ⟨2, ![7168, 1]⟩
abbrev S12800x8192 : Shape := ⟨2, ![12800, 8192]⟩
abbrev S1x8192 : Shape := ⟨2, ![1, 8192]⟩
abbrev S7168x8192 : Shape := ⟨2, ![7168, 8192]⟩
abbrev S7168x128 : Shape := ⟨2, ![7168, 128]⟩
abbrev S7168 : Shape := ⟨1, ![7168]⟩

abbrev nBuf : Space → Nat
  | .hbm => 7
  | .vmem => 7
  | .smem => 0
  | _ => 0

abbrev bufTy : (tb : Table) → Fin (tcTables nBuf tb) → BufTy
  | .hbm, ⟨0, _⟩ => ⟨S7168x12800, .fp8e4m3⟩
  | .hbm, ⟨1, _⟩ => ⟨S7168x1, .f32⟩
  | .hbm, ⟨2, _⟩ => ⟨S12800x8192, .fp8e4m3⟩
  | .hbm, ⟨3, _⟩ => ⟨S1x8192, .f32⟩
  | .hbm, ⟨4, _⟩ => ⟨S1x8192, .f32⟩
  | .hbm, ⟨5, _⟩ => ⟨S7168x8192, .fp8e4m3⟩
  | .hbm, ⟨6, _⟩ => ⟨S7168x128, .f32⟩
  | .local _ .vmem, ⟨0, _⟩ => ⟨S7168x12800, .fp8e4m3⟩
  | .local _ .vmem, ⟨1, _⟩ => ⟨S7168x1, .f32⟩
  | .local _ .vmem, ⟨2, _⟩ => ⟨S12800x8192, .fp8e4m3⟩
  | .local _ .vmem, ⟨3, _⟩ => ⟨S1x8192, .f32⟩
  | .local _ .vmem, ⟨4, _⟩ => ⟨S1x8192, .f32⟩
  | .local _ .vmem, ⟨5, _⟩ => ⟨S7168x8192, .fp8e4m3⟩
  | .local _ .vmem, ⟨6, _⟩ => ⟨S7168x128, .f32⟩
  | _, _ => ⟨S7168x12800, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S7168x12800 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12800x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Norm.lean ====
abbrev S28x1025x3200 : Shape := ⟨3, ![28, 1025, 3200]⟩
abbrev S1x12800 : Shape := ⟨2, ![1, 12800]⟩
abbrev S_ : Shape := ⟨0, ![]⟩
abbrev S28x1032x3200 : Shape := ⟨3, ![28, 1032, 3200]⟩
abbrev S7168x12800 : Shape := ⟨2, ![7168, 12800]⟩
abbrev S7168x128 : Shape := ⟨2, ![7168, 128]⟩
abbrev S1x128x3200 : Shape := ⟨3, ![1, 128, 3200]⟩
abbrev S1x8x3200 : Shape := ⟨3, ![1, 8, 3200]⟩
abbrev S32x12800 : Shape := ⟨2, ![32, 12800]⟩
abbrev S32x128 : Shape := ⟨2, ![32, 128]⟩
abbrev S25x72x128 : Shape := ⟨3, ![25, 72, 128]⟩
abbrev S100x32x128 : Shape := ⟨3, ![100, 32, 128]⟩
abbrev S1x128x128 : Shape := ⟨3, ![1, 128, 128]⟩
abbrev S128x128 : Shape := ⟨2, ![128, 128]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S1x128 : Shape := ⟨2, ![1, 128]⟩
abbrev S1x1x128 : Shape := ⟨3, ![1, 1, 128]⟩
abbrev S16x128 : Shape := ⟨2, ![16, 128]⟩
abbrev S1x16x128 : Shape := ⟨3, ![1, 16, 128]⟩
abbrev S16 : Shape := ⟨1, ![16]⟩
abbrev S16x1 : Shape := ⟨2, ![16, 1]⟩
abbrev S1x32x128 : Shape := ⟨3, ![1, 32, 128]⟩

abbrev nBuf : Space → Nat
  | .hbm => 8
  | .vmem => 12
  | .smem => 0
  | _ => 0

abbrev bufTy : (tb : Table) → Fin (tcTables nBuf tb) → BufTy
  | .hbm, ⟨0, _⟩ => ⟨S28x1025x3200, .bf16⟩
  | .hbm, ⟨1, _⟩ => ⟨S1x12800, .f32⟩
  | .hbm, ⟨2, _⟩ => ⟨S1x12800, .f32⟩
  | .hbm, ⟨3, _⟩ => ⟨S_, .i32⟩
  | .hbm, ⟨4, _⟩ => ⟨S_, .bf16⟩
  | .hbm, ⟨5, _⟩ => ⟨S28x1032x3200, .bf16⟩
  | .hbm, ⟨6, _⟩ => ⟨S7168x12800, .fp8e4m3⟩
  | .hbm, ⟨7, _⟩ => ⟨S7168x128, .f32⟩
  | .local _ .vmem, ⟨0, _⟩ => ⟨S1x128x3200, .bf16⟩
  | .local _ .vmem, ⟨1, _⟩ => ⟨S1x128x3200, .bf16⟩
  | .local _ .vmem, ⟨2, _⟩ => ⟨S1x8x3200, .bf16⟩
  | .local _ .vmem, ⟨3, _⟩ => ⟨S1x8x3200, .bf16⟩
  | .local _ .vmem, ⟨4, _⟩ => ⟨S1x12800, .f32⟩
  | .local _ .vmem, ⟨5, _⟩ => ⟨S1x12800, .f32⟩
  | .local _ .vmem, ⟨6, _⟩ => ⟨S32x12800, .fp8e4m3⟩
  | .local _ .vmem, ⟨7, _⟩ => ⟨S32x12800, .fp8e4m3⟩
  | .local _ .vmem, ⟨8, _⟩ => ⟨S32x128, .f32⟩
  | .local _ .vmem, ⟨9, _⟩ => ⟨S32x128, .f32⟩
  | .local _ .vmem, ⟨10, _⟩ => ⟨S25x72x128, .i32⟩
  | .local _ .vmem, ⟨11, _⟩ => ⟨S100x32x128, .f32⟩
  | _, _ => ⟨S28x1025x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![28, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x128x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x12800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x12800 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.Tails.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body does at a point before the last 17: it writes a tile of codes, sends the sum the point before left
    through the activation, and leaves the product of this point's blocks for the point after;
    `jp` is what comes next. -/
def mainTail (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h3 : k0_cond3 i = 1#1) (jp : PUnit.{1} → Prog (TpuEff nD τ sig (Elt F) Λ₀ .tc) PUnit) : Prog (TpuEff nD τ sig (Elt F) Λ₀ .tc) PUnit := do
  let ⟨v2287, v2297, v2298, v2304, v2314⟩ : Σ' (v2287 : Vec F S32x128 .f32) (v2297 : FVec F S32x128 .f32) (v2298 : FVec F S32x128 .f32) (v2304 : FVec F S32x128 .f32), FVec F S32x128 .f32 ← k0_part109 i arg1 harg1 arg2 harg2 arg3 harg3 arg4 harg4 arg5 harg5 arg6 harg6 arg7 harg7 arg8 harg8 arg9 harg9 arg10 harg10 arg11 harg11 v2 k0_h3
  let v4305 : FVec F S512x512 .f32 ← k0_part110 i arg1 harg1 arg2 harg2 arg3 harg3 arg4 harg4 arg5 harg5 arg6 harg6 arg7 harg7 arg8 harg8 arg9 harg9 arg10 harg10 arg11 harg11 v2 k0_h3 v2287 v2297 v2298 v2304 v2314
  Prog.lift (.store arg8 (Rect.unit (s := S512x512) ![0, 0] S512x512.size inb_S512x512_S512x512_0_0) (k0_pay8 v4305) Finset.univ (View.stores_vmem_bits_univ h_S512x512 rfl) (.inl rfl))
  jp ⟨⟩

/-- What the body does at the last 17 points: the same, without a product. -/
def drainTail (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h4 : k0_cond4 i = 1#1) (jp : PUnit.{1} → Prog (TpuEff nD τ sig (Elt F) Λ₀ .tc) PUnit) : Prog (TpuEff nD τ sig (Elt F) Λ₀ .tc) PUnit := do
  let ⟨v2287, v2297, v2298, v2304, v2314⟩ : Σ' (v2287 : Vec F S32x128 .f32) (v2297 : FVec F S32x128 .f32) (v2298 : FVec F S32x128 .f32) (v2304 : FVec F S32x128 .f32), FVec F S32x128 .f32 ← k0_part219 i arg1 harg1 arg2 harg2 arg3 harg3 arg4 harg4 arg5 harg5 arg6 harg6 arg7 harg7 arg8 harg8 arg9 harg9 arg10 harg10 arg11 harg11 v2 k0_h4
  let ⟨v2342, v2352, v2353, v2355, cst_1208⟩ : Σ' (v2342 : FVec F S32x128 .f32) (v2352 : FVec F S32x128 .f32) (v2353 : FVec F S32x128 .f32) (v2355 : FVec F S32x128 .f32), F .f32 ← k0_part171 i arg1 harg1 arg2 harg2 arg3 harg3 arg4 harg4 arg5 harg5 arg6 harg6 arg7 harg7 arg8 harg8 arg9 harg9 arg10 harg10 arg11 harg11 v2 k0_h4 v2287 v2297 v2298 v2304 v2314
  let ⟨v2397, v2398⟩ : Σ' (v2397 : FVec F S32x128 .f32), Vec F S32x128 .f32 ← k0_part172 i arg1 harg1 arg2 harg2 arg3 harg3 arg4 harg4 arg5 harg5 arg6 harg6 arg7 harg7 arg8 harg8 arg9 harg9 arg10 harg10 arg11 harg11 v2 k0_h4 v2342 v2352 v2353 v2355 cst_1208
  let ⟨v2438, v2440, v2441⟩ : Σ' (v2438 : FVec F S32x128 .f32) (v2440 : FVec F S32x128 .f32), FVec F S32x128 .f32 ← k0_part173 i arg1 harg1 arg2 harg2 arg3 harg3 arg4 harg4 arg5 harg5 arg6 harg6 arg7 harg7 arg8 harg8 arg9 harg9 arg10 harg10 arg11 harg11 v2398
  let ⟨v2452, v2462, v2463, v2469, v2480, v2481⟩ : Σ' (v2452 : FVec F S32x128 .f32) (v2462 : FVec F S32x128 .f32) (v2463 : FVec F S32x128 .f32) (v2469 : FVec F S32x128 .f32) (v2480 : FVec F S32x128 .f32), FVec F S32x128 .f32 ← k0_part174 i arg1 harg1 arg2 harg2 arg3 harg3 arg4 harg4 arg5 harg5 arg6 harg6 arg7 harg7 arg8 harg8 arg9 harg9 arg10 harg10 arg11 harg11 v2 k0_h4 v2397 v2438 v2440 v2441
  let ⟨v2511, v2518, v2520⟩ : Σ' (v2511 : Vec F S32x128 .f32) (v2518 : FVec F S32x128 .f32), FVec F S32x128 .f32 ← k0_part175 i arg1 harg1 arg2 harg2 arg3 harg3 arg4 harg4 arg5 harg5 arg6 harg6 arg7 harg7 arg8 harg8 arg9 harg9 arg10 harg10 arg11 harg11 v2 k0_h4 v2452 v2462 v2463 v2469 v2480 v2481
  let v2560 : FVec F S32x128 .f32 ← k0_part176 i arg1 harg1 arg2 harg2 arg3 harg3 arg4 harg4 arg5 harg5 arg6 harg6 arg7 harg7 arg8 harg8 arg9 harg9 arg10 harg10 arg11 harg11 v2 k0_h4 v2518 v2520
  let ⟨v2566, v2576, v2577, v2583, v2605⟩ : Σ' (v2566 : FVec F S32x128 .f32) (v2576 : FVec F S32x128 .f32) (v2577 : FVec F S32x128 .f32) (v2583 : FVec F S32x128 .f32), FVec F S32x128 .f32 ← k0_part177 i arg1 harg1 arg2 harg2 arg3 harg3 arg4 harg4 arg5 harg5 arg6 harg6 arg7 harg7 arg8 harg8 arg9 harg9 arg10 harg10 arg11 harg11 v2511 v2560
  let ⟨v2621, v2631, v2632, v2638, v2646⟩ : Σ' (v2621 : FVec F S32x128 .f32) (v2631 : FVec F S32x128 .f32) (v2632 : FVec F S32x128 .f32) (v2638 : FVec F S32x128 .f32), FVec F S32x128 .f32 ← k0_part178 i arg1 harg1 arg2 harg2 arg3 harg3 arg4 harg4 arg5 harg5 arg6 harg6 arg7 harg7 arg8 harg8 arg9 harg9 arg10 harg10 arg11 harg11 v2 k0_h4 v2566 v2576 v2577 v2583 v2605
  let ⟨v2676, v2686, v2687, cst_1349⟩ : Σ' (v2676 : FVec F S32x128 .f32) (v2686 : FVec F S32x128 .f32) (v2687 : FVec F S32x128 .f32), F .f32 ← k0_part179 i arg1 harg1 arg2 harg2 arg3 harg3 arg4 harg4 arg5 harg5 arg6 harg6 arg7 harg7 arg8 harg8 arg9 harg9 arg10 harg10 arg11 harg11 v2 k0_h4 v2621 v2631 v2632 v2638 v2646
  let v2731 : FVec F S32x128 .f32 ← k0_part180 i arg1 harg1 arg2 harg2 arg3 harg3 arg4 harg4 arg5 harg5 arg6 harg6 arg7 harg7 arg8 harg8 arg9 harg9 arg10 harg10 arg11 harg11 v2 k0_h4 v2676 v2686 v2687 cst_1349
  let ⟨v2735, v2745, v2746, v2752, v2769, cst_1385⟩ : Σ' (v2735 : Vec F S32x128 .f32) (v2745 : FVec F S32x128 .f32) (v2746 : FVec F S32x128 .f32) (v2752 : FVec F S32x128 .f32) (v2769 : FVec F S32x128 .f32), F .f32 ← k0_part181 i arg1 harg1 arg2 harg2 arg3 harg3 arg4 harg4 arg5 harg5 arg6 harg6 arg7 harg7 arg8 harg8 arg9 harg9 arg10 harg10 arg11 harg11 v2731
  let ⟨v2790, v2800, v2801, v2807, v2809, v2810⟩ : Σ' (v2790 : FVec F S32x128 .f32) (v2800 : FVec F S32x128 .f32) (v2801 : FVec F S32x128 .f32) (v2807 : FVec F S32x128 .f32) (v2809 : FVec F S32x128 .f32), FVec F S32x128 .f32 ← k0_part182 i arg1 harg1 arg2 harg2 arg3 harg3 arg4 harg4 arg5 harg5 arg6 harg6 arg7 harg7 arg8 harg8 arg9 harg9 arg10 harg10 arg11 harg11 v2 k0_h4 v2735 v2745 v2746 v2752 v2769 cst_1385
  let ⟨v2845, v2852⟩ : Σ' (v2845 : FVec F S32x128 .f32), FVec F S32x128 .f32 ← k0_part183 i arg1 harg1 arg2 harg2 arg3 harg3 arg4 harg4 arg5 harg5 arg6 harg6 arg7 harg7 arg8 harg8 arg9 harg9 arg10 harg10 arg11 harg11 v2 k0_h4 v2790 v2800 v2801 v2807 v2809 v2810
  let ⟨v2894, v2896⟩ : Σ' (v2894 : FVec F S32x128 .f32), Vec F S1x32x128 .f32 ← k0_part184 i arg1 harg1 arg2 harg2 arg3 harg3 arg4 harg4 arg5 harg5 arg6 harg6 arg7 harg7 arg8 harg8 arg9 harg9 arg10 harg10 arg11 harg11 v2 k0_h4 v2852
  let ⟨v2900, v2910, v2911, v2917, v2937⟩ : Σ' (v2900 : FVec F S32x128 .f32) (v2910 : FVec F S32x128 .f32) (v2911 : FVec F S32x128 .f32) (v2917 : FVec F S32x128 .f32), FVec F S32x128 .f32 ← k0_part185 i arg1 harg1 arg2 harg2 arg3 harg3 arg4 harg4 arg5 harg5 arg6 harg6 arg7 harg7 arg8 harg8 arg9 harg9 arg10 harg10 arg11 harg11 k0_h4 v2845 v2894 v2896
  let ⟨v2959, v2969, v2970, v2974, v2975⟩ : Σ' (v2959 : Vec F S32x128 .f32) (v2969 : FVec F S32x128 .f32) (v2970 : FVec F S32x128 .f32) (v2974 : FVec F S32x128 .f32), FVec F S32x128 .f32 ← k0_part186 i arg1 harg1 arg2 harg2 arg3 harg3 arg4 harg4 arg5 harg5 arg6 harg6 arg7 harg7 arg8 harg8 arg9 harg9 arg10 harg10 arg11 harg11 v2 k0_h4 v2900 v2910 v2911 v2917 v2937
  let ⟨v3014, v3018⟩ : Σ' (v3014 : FVec F S32x128 .f32), FVec F S32x128 .f32 ← k0_part187 i arg1 harg1 arg2 harg2 arg3 harg3 arg4 harg4 arg5 harg5 arg6 harg6 arg7 harg7 arg8 harg8 arg9 harg9 arg10 harg10 arg11 harg11 v2 k0_h4 v2959 v2969 v2970 v2974 v2975
  let ⟨v3055, v3057, v3061⟩ : Σ' (v3055 : FVec F S32x128 .f32) (v3057 : FVec F S32x128 .f32), FVec F S32x128 .f32 ← k0_part188 i arg1 harg1 arg2 harg2 arg3 harg3 arg4 harg4 arg5 harg5 arg6 harg6 arg7 harg7 arg8 harg8 arg9 harg9 arg10 harg10 arg11 harg11 v3018
  let ⟨v3069, v3079, v3080, v3086, v3100, v3101⟩ : Σ' (v3069 : FVec F S32x128 .f32) (v3079 : FVec F S32x128 .f32) (v3080 : FVec F S32x128 .f32) (v3086 : FVec F S32x128 .f32) (v3100 : FVec F S32x128 .f32), FVec F S32x128 .f32 ← k0_part189 i arg1 harg1 arg2 harg2 arg3 harg3 arg4 harg4 arg5 harg5 arg6 harg6 arg7 harg7 arg8 harg8 arg9 harg9 arg10 harg10 arg11 harg11 v2 k0_h4 v3014 v3055 v3057 v3061
  let ⟨v3124, v3134, v3135, v3141, v3142⟩ : Σ' (v3124 : FVec F S32x128 .f32) (v3134 : FVec F S32x128 .f32) (v3135 : FVec F S32x128 .f32) (v3141 : FVec F S32x128 .f32), FVec F S32x128 .f32 ← k0_part190 i arg1 harg1 arg2 harg2 arg3 harg3 arg4 harg4 arg5 harg5 arg6 harg6 arg7 harg7 arg8 harg8 arg9 harg9 arg10 harg10 arg11 harg11 v2 k0_h4 v3069 v3079 v3080 v3086 v3100 v3101
  let v3183 : Vec F S32x128 .f32 ← k0_part191 i arg1 harg1 arg2 harg2 arg3 harg3 arg4 harg4 arg5 harg5 arg6 harg6 arg7 harg7 arg8 harg8 arg9 harg9 arg10 harg10 arg11 harg11 v2 k0_h4 v3124 v3134 v3135 v3141 v3142
  let ⟨v3193, v3222, v3224, v3225⟩ : Σ' (v3193 : FVec F S32x128 .f32) (v3222 : FVec F S32x128 .f32) (v3224 : FVec F S32x128 .f32), FVec F S32x128 .f32 ← k0_part192 i arg1 harg1 arg2 harg2 arg3 harg3 arg4 harg4 arg5 harg5 arg6 harg6 arg7 harg7 arg8 harg8 arg9 harg9 arg10 harg10 arg11 harg11
  let ⟨v3238, v3248, v3249, v3255, v3266⟩ : Σ' (v3238 : FVec F S32x128 .f32) (v3248 : FVec F S32x128 .f32) (v3249 : FVec F S32x128 .f32) (v3255 : FVec F S32x128 .f32), FVec F S32x128 .f32 ← k0_part193 i arg1 harg1 arg2 harg2 arg3 harg3 arg4 harg4 arg5 harg5 arg6 harg6 arg7 harg7 arg8 harg8 arg9 harg9 arg10 harg10 arg11 harg11 v2 k0_h4 v3183 v3193 v3222 v3224 v3225
  let ⟨v3293, v3303, v3304, v3306, v3307⟩ : Σ' (v3293 : FVec F S32x128 .f32) (v3303 : FVec F S32x128 .f32) (v3304 : FVec F S32x128 .f32) (v3306 : FVec F S32x128 .f32), FVec F S32x128 .f32 ← k0_part194 i arg1 harg1 arg2 harg2 arg3 harg3 arg4 harg4 arg5 harg5 arg6 harg6 arg7 harg7 arg8 harg8 arg9 harg9 arg10 harg10 arg11 harg11 v2 k0_h4 v3238 v3248 v3249 v3255 v3266
  let ⟨v3348, v3349⟩ : Σ' (v3348 : FVec F S32x128 .f32), Vec F S32x128 .f32 ← k0_part195 i arg1 harg1 arg2 harg2 arg3 harg3 arg4 harg4 arg5 harg5 arg6 harg6 arg7 harg7 arg8 harg8 arg9 harg9 arg10 harg10 arg11 harg11 v2 k0_h4 v3293 v3303 v3304 v3306 v3307
  let ⟨v3389, v3391, v3392, cst_1649⟩ : Σ' (v3389 : FVec F S32x128 .f32) (v3391 : FVec F S32x128 .f32) (v3392 : FVec F S32x128 .f32), F .f32 ← k0_part196 i arg1 harg1 arg2 harg2 arg3 harg3 arg4 harg4 arg5 harg5 arg6 harg6 arg7 harg7 arg8 harg8 arg9 harg9 arg10 harg10 arg11 harg11 v3349
  let ⟨v3407, v3417, v3418, v3424, v3429, v3430⟩ : Σ' (v3407 : Vec F S32x128 .f32) (v3417 : FVec F S32x128 .f32) (v3418 : FVec F S32x128 .f32) (v3424 : FVec F S32x128 .f32) (v3429 : FVec F S32x128 .f32), FVec F S32x128 .f32 ← k0_part197 i arg1 harg1 arg2 harg2 arg3 harg3 arg4 harg4 arg5 harg5 arg6 harg6 arg7 harg7 arg8 harg8 arg9 harg9 arg10 harg10 arg11 harg11 v2 k0_h4 v3348 v3389 v3391 v3392 cst_1649
  let ⟨v3462, v3472⟩ : Σ' (v3462 : FVec F S32x128 .f32), FVec F S32x128 .f32 ← k0_part198 i arg1 harg1 arg2 harg2 arg3 harg3 arg4 harg4 arg5 harg5 arg6 harg6 arg7 harg7 arg8 harg8 arg9 harg9 arg10 harg10 arg11 harg11 v2 k0_h4 v3407 v3417 v3418 v3424 v3429 v3430
  let v3516 : FVec F S32x128 .f32 ← k0_part199 i arg1 harg1 arg2 harg2 arg3 harg3 arg4 harg4 arg5 harg5 arg6 harg6 arg7 harg7 arg8 harg8 arg9 harg9 arg10 harg10 arg11 harg11 v2 k0_h4 v3472
  let ⟨v3517, v3527, v3528, v3534, v3556, cst_1721⟩ : Σ' (v3517 : FVec F S32x128 .f32) (v3527 : FVec F S32x128 .f32) (v3528 : FVec F S32x128 .f32) (v3534 : FVec F S32x128 .f32) (v3556 : FVec F S32x128 .f32), F .f32 ← k0_part200 i arg1 harg1 arg2 harg2 arg3 harg3 arg4 harg4 arg5 harg5 arg6 harg6 arg7 harg7 arg8 harg8 arg9 harg9 arg10 harg10 arg11 harg11 v3462 v3516
  let ⟨v3572, v3582, v3583, v3589, v3597, cst_1739⟩ : Σ' (v3572 : FVec F S32x128 .f32) (v3582 : FVec F S32x128 .f32) (v3583 : FVec F S32x128 .f32) (v3589 : FVec F S32x128 .f32) (v3597 : FVec F S32x128 .f32), F .f32 ← k0_part201 i arg1 harg1 arg2 harg2 arg3 harg3 arg4 harg4 arg5 harg5 arg6 harg6 arg7 harg7 arg8 harg8 arg9 harg9 arg10 harg10 arg11 harg11 v2 k0_h4 v3517 v3527 v3528 v3534 v3556 cst_1721
  let ⟨v3631, v3635, v3637⟩ : Σ' (v3631 : Vec F S32x128 .f32) (v3635 : FVec F S32x128 .f32), FVec F S32x128 .f32 ← k0_part202 i arg1 harg1 arg2 harg2 arg3 harg3 arg4 harg4 arg5 harg5 arg6 harg6 arg7 harg7 arg8 harg8 arg9 harg9 arg10 harg10 arg11 harg11 v2 k0_h4 v3572 v3582 v3583 v3589 v3597 cst_1739
  let v3680 : FVec F S32x128 .f32 ← k0_part203 i arg1 harg1 arg2 harg2 arg3 harg3 arg4 harg4 arg5 harg5 arg6 harg6 arg7 harg7 arg8 harg8 arg9 harg9 arg10 harg10 arg11 harg11 v2 v3635 v3637
  let ⟨v3686, v3696, v3697, v3703, v3720, v3721⟩ : Σ' (v3686 : FVec F S32x128 .f32) (v3696 : FVec F S32x128 .f32) (v3697 : FVec F S32x128 .f32) (v3703 : FVec F S32x128 .f32) (v3720 : FVec F S32x128 .f32), FVec F S32x128 .f32 ← k0_part204 i arg1 harg1 arg2 harg2 arg3 harg3 arg4 harg4 arg5 harg5 arg6 harg6 arg7 harg7 arg8 harg8 arg9 harg9 arg10 harg10 arg11 harg11 k0_h4 v3631 v3680
  let ⟨v3741, v3751, v3752, v3758, v3762⟩ : Σ' (v3741 : FVec F S32x128 .f32) (v3751 : FVec F S32x128 .f32) (v3752 : FVec F S32x128 .f32) (v3758 : FVec F S32x128 .f32), FVec F S32x128 .f32 ← k0_part205 i arg1 harg1 arg2 harg2 arg3 harg3 arg4 harg4 arg5 harg5 arg6 harg6 arg7 harg7 arg8 harg8 arg9 harg9 arg10 harg10 arg11 harg11 v2 k0_h4 v3686 v3696 v3697 v3703 v3720 v3721
  let ⟨v3796, v3803⟩ : Σ' (v3796 : FVec F S32x128 .f32), FVec F S32x128 .f32 ← k0_part206 i arg1 harg1 arg2 harg2 arg3 harg3 arg4 harg4 arg5 harg5 arg6 harg6 arg7 harg7 arg8 harg8 arg9 harg9 arg10 harg10 arg11 harg11 v2 k0_h4 v3741 v3751 v3752 v3758 v3762
  let v3845 : FVec F S32x128 .f32 ← k0_part207 i arg1 harg1 arg2 harg2 arg3 harg3 arg4 harg4 arg5 harg5 arg6 harg6 arg7 harg7 arg8 harg8 arg9 harg9 arg10 harg10 arg11 harg11 v2 k0_h4 v3803
  let ⟨v3855, v3865, v3866, v3872, v3886⟩ : Σ' (v3855 : Vec F S32x128 .f32) (v3865 : FVec F S32x128 .f32) (v3866 : FVec F S32x128 .f32) (v3872 : FVec F S32x128 .f32), FVec F S32x128 .f32 ← k0_part208 i arg1 harg1 arg2 harg2 arg3 harg3 arg4 harg4 arg5 harg5 arg6 harg6 arg7 harg7 arg8 harg8 arg9 harg9 arg10 harg10 arg11 harg11 k0_h4 v3796 v3845
  let ⟨v3910, v3920, v3921, v3927⟩ : Σ' (v3910 : FVec F S32x128 .f32) (v3920 : FVec F S32x128 .f32) (v3921 : FVec F S32x128 .f32), FVec F S32x128 .f32 ← k0_part209 i arg1 harg1 arg2 harg2 arg3 harg3 arg4 harg4 arg5 harg5 arg6 harg6 arg7 harg7 arg8 harg8 arg9 harg9 arg10 harg10 arg11 harg11 v2 k0_h4 v3855 v3865 v3866 v3872 v3886
  let ⟨v3965, v3969⟩ : Σ' (v3965 : FVec F S32x128 .f32), FVec F S32x128 .f32 ← k0_part210 i arg1 harg1 arg2 harg2 arg3 harg3 arg4 harg4 arg5 harg5 arg6 harg6 arg7 harg7 arg8 harg8 arg9 harg9 arg10 harg10 arg11 harg11 v2 k0_h4 v3910 v3920 v3921 v3927
  let ⟨v4006, v4013⟩ : Σ' (v4006 : FVec F S32x128 .f32), FVec F S32x128 .f32 ← k0_part211 i arg1 harg1 arg2 harg2 arg3 harg3 arg4 harg4 arg5 harg5 arg6 harg6 arg7 harg7 arg8 harg8 arg9 harg9 arg10 harg10 arg11 harg11 v3969
  let ⟨v4020, v4030, v4031, v4037, v4053⟩ : Σ' (v4020 : FVec F S32x128 .f32) (v4030 : FVec F S32x128 .f32) (v4031 : FVec F S32x128 .f32) (v4037 : FVec F S32x128 .f32), FVec F S32x128 .f32 ← k0_part212 i arg1 harg1 arg2 harg2 arg3 harg3 arg4 harg4 arg5 harg5 arg6 harg6 arg7 harg7 arg8 harg8 arg9 harg9 arg10 harg10 arg11 harg11 v2 k0_h4 v3965 v4006 v4013
  let ⟨v4079, v4089, v4090, v4092⟩ : Σ' (v4079 : Vec F S32x128 .f32) (v4089 : FVec F S32x128 .f32) (v4090 : FVec F S32x128 .f32), FVec F S32x128 .f32 ← k0_part213 i arg1 harg1 arg2 harg2 arg3 harg3 arg4 harg4 arg5 harg5 arg6 harg6 arg7 harg7 arg8 harg8 arg9 harg9 arg10 harg10 arg11 harg11 v2 k0_h4 v4020 v4030 v4031 v4037 v4053
  let ⟨v4134, v4135⟩ : Σ' (v4134 : FVec F S32x128 .f32), Vec F S32x128 .f32 ← k0_part214 i arg1 harg1 arg2 harg2 arg3 harg3 arg4 harg4 arg5 harg5 arg6 harg6 arg7 harg7 arg8 harg8 arg9 harg9 arg10 harg10 arg11 harg11 v2 k0_h4 v4079 v4089 v4090 v4092
  let ⟨v4144, v4175, v4177⟩ : Σ' (v4144 : FVec F S32x128 .f32) (v4175 : FVec F S32x128 .f32), FVec F S32x128 .f32 ← k0_part215 i arg1 harg1 arg2 harg2 arg3 harg3 arg4 harg4 arg5 harg5 arg6 harg6 arg7 harg7 arg8 harg8 arg9 harg9 arg10 harg10 arg11 harg11 v4135
  let ⟨v4189, v4199, v4200, v4206, v4217, cst_2005⟩ : Σ' (v4189 : FVec F S32x128 .f32) (v4199 : FVec F S32x128 .f32) (v4200 : FVec F S32x128 .f32) (v4206 : FVec F S32x128 .f32) (v4217 : FVec F S32x128 .f32), F .f32 ← k0_part216 i arg1 harg1 arg2 harg2 arg3 harg3 arg4 harg4 arg5 harg5 arg6 harg6 arg7 harg7 arg8 harg8 arg9 harg9 arg10 harg10 arg11 harg11 v2 k0_h4 v4134 v4144 v4175 v4177
  let ⟨v4244, v4254, v4255, v4259⟩ : Σ' (v4244 : FVec F S32x128 .f32) (v4254 : FVec F S32x128 .f32) (v4255 : FVec F S32x128 .f32), FVec F S32x128 .f32 ← k0_part217 i arg1 harg1 arg2 harg2 arg3 harg3 arg4 harg4 arg5 harg5 arg6 harg6 arg7 harg7 arg8 harg8 arg9 harg9 arg10 harg10 arg11 harg11 v2 k0_h4 v4189 v4199 v4200 v4206 v4217 cst_2005
  k0_part218 i arg1 harg1 arg2 harg2 arg3 harg3 arg4 harg4 arg5 harg5 arg6 harg6 arg7 harg7 arg8 harg8 arg9 harg9 arg10 harg10 arg11 harg11 v2 k0_h4 v4244 v4254 v4255 v4259
  jp ⟨⟩

end Cert.KernelIdeal.Hand

end
-- ==== Proof.MainRun.lean ====
module

public import proofs.«01_k».proof.Proof.Gen.KernelIdeal.Launch
public import proofs.«01_k».proof.Proof.Tails
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 9000000 in
/-- The pieces `mainTail` leaves in each buffer it stores into, found by running it. -/
def mainTail_run (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h3 : k0_cond3 i = 1#1) (x0 : Vec F S512x12800 .fp8e4m3) (x1 : Vec F S512x128 .f32) (x2 : Vec F S12800x512 .fp8e4m3) (x3 : Vec F S1x512 .f32) (x4 : Vec F S1x512 .f32) (xs0 : Vec F S512x512 .f32) (xs1 : Vec F S16x512x512 .f32) (xs2 xs3 : Vec F S512x128 .f32) :
    Σ' (LC : List (View.Piece (Elt F) S512x512 .fp8e4m3)) (LS0 : List (View.Piece (Elt F) S512x512 .f32)) (LS1 : List (View.Piece (Elt F) S16x512x512 .f32)), { LS2 : List (View.Piece (Elt F) S512x128 .f32) //
      ∀ (E : Set ℕ) (K : PUnit → sProp 𝕄) (jp : PUnit.{1} → Prog (TpuEff nD τ sig (Elt F) Λ₀ .tc) PUnit),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, (arg6.view.loc (c : Thread nD τ) ↦[arg6.view.set]{fullShare} arg6.view.writes (Elt F) f LC)) ∗ (∃ f, (arg8.view.loc (c : Thread nD τ) ↦[arg8.view.set]{fullShare} arg8.view.writes (Elt F) f LS0)) ∗ (arg9.view.loc (c : Thread nD τ) ↦[arg9.view.set]{fullShare} arg9.view.writes (Elt F) (harg9.unread xs1) LS1) ∗ (∃ f, (arg10.view.loc (c : Thread nD τ) ↦[arg10.view.set]{fullShare} arg10.view.writes (Elt F) f LS2)) ∗ owns (c : Thread nD τ) arg11 fullShare xs3) -∗ wp frame (wpE (defs₀ (F := F)) Variants.none c none) E (jp ⟨⟩) K))
          ⊢ wp frame (wpE (defs₀ (F := F)) Variants.none c none) E (mainTail i arg1 harg1 arg2 harg2 arg3 harg3 arg4 harg4 arg5 harg5 arg6 harg6 arg7 harg7 arg8 harg8 arg9 harg9 arg10 harg10 arg11 harg11 v2 k0_h3 jp) K } := by
  refine ⟨?_, ?_, ?_, ?_, fun E K jp => ?run⟩
  case run =>
    unfold mainTail
    simp only [k0_part109_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part110_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, ⟨%f9, %hf9, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hf8; obtain rfl := harg9.eq_unread hf9; obtain rfl := harg10.eq_unread hf10; obtain rfl := harg11.eq_unread hf11
    sl_exec
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H8]; · iexists _; iexact H8
    isplitl [H9]; · iexact H9
    isplitl [H10]; · iexists _; iexact H10
    iexists _; isplitr; · ipureintro; exact harg11.read_unread _
    iexact H11

end Cert.KernelIdeal.Hand

end
-- ==== Proof.DrainRun.lean ====
module

public import proofs.«01_k».proof.Proof.Gen.KernelIdeal.Launch
public import proofs.«01_k».proof.Proof.Tails
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 9000000 in
/-- The pieces `drainTail` leaves in each buffer it stores into, found by running it. -/
def drainTail_run (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h4 : k0_cond4 i = 1#1) (x1 : Vec F S512x128 .f32) (x3 : Vec F S1x512 .f32) (x4 : Vec F S1x512 .f32) (xs0 : Vec F S512x512 .f32) (xs1 : Vec F S16x512x512 .f32) (xs2 xs3 : Vec F S512x128 .f32) :
    Σ' (LC : List (View.Piece (Elt F) S512x512 .fp8e4m3)) (LS1 : List (View.Piece (Elt F) S16x512x512 .f32)), { LS2 : List (View.Piece (Elt F) S512x128 .f32) //
      ∀ (E : Set ℕ) (K : PUnit → sProp 𝕄) (jp : PUnit.{1} → Prog (TpuEff nD τ sig (Elt F) Λ₀ .tc) PUnit),
        iprop(owns (c : Thread nD τ) arg2 fullShare x1 ∗ owns (c : Thread nD τ) arg4 fullShare x3 ∗ owns (c : Thread nD τ) arg5 fullShare x4 ∗ (∃ d, owns (c : Thread nD τ) arg6 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x1 ∗ owns (c : Thread nD τ) arg4 fullShare x3 ∗ owns (c : Thread nD τ) arg5 fullShare x4 ∗ (∃ f, (arg6.view.loc (c : Thread nD τ) ↦[arg6.view.set]{fullShare} arg6.view.writes (Elt F) f LC)) ∗ owns (c : Thread nD τ) arg8 fullShare xs0 ∗ (arg9.view.loc (c : Thread nD τ) ↦[arg9.view.set]{fullShare} arg9.view.writes (Elt F) (harg9.unread xs1) LS1) ∗ (∃ f, (arg10.view.loc (c : Thread nD τ) ↦[arg10.view.set]{fullShare} arg10.view.writes (Elt F) f LS2)) ∗ owns (c : Thread nD τ) arg11 fullShare xs3) -∗ wp frame (wpE (defs₀ (F := F)) Variants.none c none) E (jp ⟨⟩) K))
          ⊢ wp frame (wpE (defs₀ (F := F)) Variants.none c none) E (drainTail i arg1 harg1 arg2 harg2 arg3 harg3 arg4 harg4 arg5 harg5 arg6 harg6 arg7 harg7 arg8 harg8 arg9 harg9 arg10 harg10 arg11 harg11 v2 k0_h4 jp) K } := by
  refine ⟨?_, ?_, ?_, fun E K jp => ?run⟩
  case run =>
    unfold drainTail
    simp only [k0_part219_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton]
    unfold owns
    iintro ⟨⟨%f2, %hf2, H2⟩, ⟨%f4, %hf4, H4⟩, ⟨%f5, %hf5, H5⟩, ⟨%d6, %f6, -, H6⟩, ⟨%f8, %hf8, H8⟩, ⟨%f9, %hf9, H9⟩, ⟨%f10, %hf10, H10⟩, ⟨%f11, %hf11, H11⟩, Hk⟩
    obtain rfl := harg2.eq_unread hf2; obtain rfl := harg4.eq_unread hf4; obtain rfl := harg5.eq_unread hf5; obtain rfl := harg8.eq_unread hf8; obtain rfl := harg9.eq_unread hf9; obtain rfl := harg10.eq_unread hf10; obtain rfl := harg11.eq_unread hf11
    sl_exec
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H8]
    · iexists _; isplitr; · ipureintro; exact harg8.read_unread _
      iexact H8
    isplitl [H9]; · iexact H9
    isplitl [H10]; · iexists _; iexact H10
    iexists _; isplitr; · ipureintro; exact harg11.read_unread _
    iexact H11

end Cert.KernelIdeal.Hand

end
-- ==== Proof.Pieces.lean ====
module

public import proofs.«01_k».proof.Proof.Gen.KernelIdeal.Launch
public import proofs.«01_k».proof.Proof.MainRun
public import proofs.«01_k».proof.Proof.DrainRun
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A tile of 32 rows by 128 lanes lies in a block of 512 by 512. -/
theorem inb_tile (r : Fin 16) (j : Fin 4) : ∀ a, (![32 * r.val, 128 * j.val] : Fin 2 → ℕ) a + S32x128.size a ≤ S512x512.size a := by
  intro a; have := r.isLt; have := j.isLt
  fin_cases a <;> simp [S32x128, S512x512] <;> omega

theorem inb_band (r : Fin 16) : ∀ a, (![32 * r.val, 0] : Fin 2 → ℕ) a + S32x128.size a ≤ S512x128.size a := by
  intro a; have := r.isLt
  fin_cases a <;> simp [S32x128, S512x128] <;> omega

theorem inb_lane (j : Fin 4) : ∀ a, (![0, 128 * j.val] : Fin 2 → ℕ) a + S1x128.size a ≤ S1x512.size a := by
  intro a; have := j.isLt
  fin_cases a <;> simp [S1x128, S1x512] <;> omega

theorem inb_slab (n : Fin 16) (r : Fin 16) (j : Fin 4) :
    ∀ a, (![n.val, 32 * r.val, 128 * j.val] : Fin 3 → ℕ) a + S1x32x128.size a ≤ S16x512x512.size a := by
  intro a; have := r.isLt; have := j.isLt; have := n.isLt
  fin_cases a <;> simp [S1x32x128, S16x512x512] <;> omega

abbrev tileRect (r : Fin 16) (j : Fin 4) : Rect S512x512 := Rect.unit (s := S512x512) ![32 * r.val, 128 * j.val] S32x128.size (inb_tile r j)
abbrev bandRect (r : Fin 16) : Rect S512x128 := Rect.unit (s := S512x128) ![32 * r.val, 0] S32x128.size (inb_band r)
abbrev laneRect (j : Fin 4) : Rect S1x512 := Rect.unit (s := S1x512) ![0, 128 * j.val] S1x128.size (inb_lane j)
abbrev slabRect (n : Fin 16) (r : Fin 16) (j : Fin 4) : Rect S16x512x512 :=
  Rect.unit (s := S16x512x512) ![n.val, 32 * r.val, 128 * j.val] S1x32x128.size (inb_slab n r j)

/-- The tiles of a block in the order in which the body's list has them: the last first. -/
def overTiles {α : Type} (f : Fin 16 → Fin 4 → α) : List α :=
  [15, 14, 13, 12, 11, 10, 9, 8, 7, 6, 5, 4, 3, 2, 1, 0].flatMap fun r => [f r 3, f r 2, f r 1, f r 0]

def overBands {α : Type} (f : Fin 16 → α) : List α :=
  [15, 14, 13, 12, 11, 10, 9, 8, 7, 6, 5, 4, 3, 2, 1, 0].map f

/-- One tile of codes: the activations the scratch holds for block `n`, times the inverse scales. -/
def codesPiece (arg9 : Memref sig .tc .vmem S16x512x512 .f32) (harg9 : arg9.IsWhole) (arg11 : Memref sig .tc .vmem S512x128 .f32) (harg11 : arg11.IsWhole) (xs1 : Vec F S16x512x512 .f32) (xs3 : Vec F S512x128 .f32) (n r : Fin 16) (j : Fin 4) :
    View.Piece (Elt F) S512x512 .fp8e4m3 :=
  ⟨tileRect r j, k0_pay9 (View.readAt (Elt F) arg9.view (slabRect n r j).toLoadRect (harg9.unread xs1))
    (View.readAt (Elt F) arg11.view (bandRect r).toLoadRect (harg11.unread xs3))⟩

/-- One tile of activations. -/
def actTile (arg2 : Memref sig .tc .vmem S512x128 .f32) (harg2 : arg2.IsWhole) (arg4 : Memref sig .tc .vmem S1x512 .f32) (harg4 : arg4.IsWhole) (arg5 : Memref sig .tc .vmem S1x512 .f32) (harg5 : arg5.IsWhole) (arg8 : Memref sig .tc .vmem S512x512 .f32) (harg8 : arg8.IsWhole) (x1 : Vec F S512x128 .f32) (x3 x4 : Vec F S1x512 .f32) (xs0 : Vec F S512x512 .f32) (r : Fin 16) (j : Fin 4) : FVec F S32x128 .f32 :=
  k0_pay82 (k0_pay73 (View.readAt (Elt F) arg8.view (tileRect r j).toLoadRect (harg8.unread xs0))
    (View.readAt (Elt F) arg2.view (bandRect r).toLoadRect (harg2.unread x1))
    (View.readAt (Elt F) arg4.view (laneRect j).toLoadRect (harg4.unread x3))
    (View.readAt (Elt F) arg5.view (laneRect j).toLoadRect (harg5.unread x4)))

def actPiece (arg2 : Memref sig .tc .vmem S512x128 .f32) (harg2 : arg2.IsWhole) (arg4 : Memref sig .tc .vmem S1x512 .f32) (harg4 : arg4.IsWhole) (arg5 : Memref sig .tc .vmem S1x512 .f32) (harg5 : arg5.IsWhole) (arg8 : Memref sig .tc .vmem S512x512 .f32) (harg8 : arg8.IsWhole) (x1 : Vec F S512x128 .f32) (x3 x4 : Vec F S1x512 .f32) (xs0 : Vec F S512x512 .f32) (n r : Fin 16) (j : Fin 4) :
    View.Piece (Elt F) S16x512x512 .f32 :=
  ⟨slabRect n r j, shapeCast S1x32x128 (actTile arg2 harg2 arg4 harg4 arg5 harg5 arg8 harg8 x1 x3 x4 xs0 r j) shapeCasts_S32x128_S1x32x128⟩

/-- One band of lane maxima: the four tiles of activations beside it have come in. -/
def maxPiece (arg2 : Memref sig .tc .vmem S512x128 .f32) (harg2 : arg2.IsWhole) (arg4 : Memref sig .tc .vmem S1x512 .f32) (harg4 : arg4.IsWhole) (arg5 : Memref sig .tc .vmem S1x512 .f32) (harg5 : arg5.IsWhole) (arg8 : Memref sig .tc .vmem S512x512 .f32) (harg8 : arg8.IsWhole) (arg10 : Memref sig .tc .vmem S512x128 .f32) (harg10 : arg10.IsWhole) (x1 : Vec F S512x128 .f32) (x3 x4 : Vec F S1x512 .f32) (xs0 : Vec F S512x512 .f32) (xs2 : Vec F S512x128 .f32) (r : Fin 16) :
    View.Piece (Elt F) S512x128 .f32 :=
  ⟨bandRect r, shapeCast S32x128
    (maximumf (maximumf (maximumf (maximumf (View.readAt (Elt F) arg10.view (bandRect r).toLoadRect (harg10.unread xs2))
      (absf (actTile arg2 harg2 arg4 harg4 arg5 harg5 arg8 harg8 x1 x3 x4 xs0 r 0)))
      (absf (actTile arg2 harg2 arg4 harg4 arg5 harg5 arg8 harg8 x1 x3 x4 xs0 r 1)))
      (absf (actTile arg2 harg2 arg4 harg4 arg5 harg5 arg8 harg8 x1 x3 x4 xs0 r 2)))
      (absf (actTile arg2 harg2 arg4 harg4 arg5 harg5 arg8 harg8 x1 x3 x4 xs0 r 3))) shapeCasts_S32x128_S32x128⟩

def blockOf (i : grid0.Coords) (h : k0_off1 i 0 < 16) : Fin 16 := ⟨k0_off1 i 0, h⟩

set_option maxHeartbeats 4000000 in
theorem mainTail_codes (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h3 : k0_cond3 i = 1#1) (hn : k0_off1 i 0 < 16) (x0 : Vec F S512x12800 .fp8e4m3) (x2 : Vec F S12800x512 .fp8e4m3) (x1 : Vec F S512x128 .f32) (x3 x4 : Vec F S1x512 .f32) (xs0 : Vec F S512x512 .f32) (xs1 : Vec F S16x512x512 .f32) (xs2 xs3 : Vec F S512x128 .f32) :
    (mainTail_run (F := F) c i arg1 harg1 arg2 harg2 arg3 harg3 arg4 harg4 arg5 harg5 arg6 harg6 arg7 harg7 arg8 harg8 arg9 harg9 arg10 harg10 arg11 harg11 v2 k0_h3 x0 x1 x2 x3 x4 xs0 xs1 xs2 xs3).1 = overTiles (codesPiece arg9 harg9 arg11 harg11 xs1 xs3 (blockOf i hn)) := rfl

set_option maxHeartbeats 4000000 in
theorem mainTail_acts (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h3 : k0_cond3 i = 1#1) (hn : k0_off1 i 0 < 16) (x0 : Vec F S512x12800 .fp8e4m3) (x2 : Vec F S12800x512 .fp8e4m3) (x1 : Vec F S512x128 .f32) (x3 x4 : Vec F S1x512 .f32) (xs0 : Vec F S512x512 .f32) (xs1 : Vec F S16x512x512 .f32) (xs2 xs3 : Vec F S512x128 .f32) :
    (mainTail_run (F := F) c i arg1 harg1 arg2 harg2 arg3 harg3 arg4 harg4 arg5 harg5 arg6 harg6 arg7 harg7 arg8 harg8 arg9 harg9 arg10 harg10 arg11 harg11 v2 k0_h3 x0 x1 x2 x3 x4 xs0 xs1 xs2 xs3).2.2.1 = overTiles (actPiece arg2 harg2 arg4 harg4 arg5 harg5 arg8 harg8 x1 x3 x4 xs0 (blockOf i hn)) := rfl

set_option maxHeartbeats 4000000 in
theorem mainTail_maxs (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h3 : k0_cond3 i = 1#1) (hn : k0_off1 i 0 < 16) (x0 : Vec F S512x12800 .fp8e4m3) (x2 : Vec F S12800x512 .fp8e4m3) (x1 : Vec F S512x128 .f32) (x3 x4 : Vec F S1x512 .f32) (xs0 : Vec F S512x512 .f32) (xs1 : Vec F S16x512x512 .f32) (xs2 xs3 : Vec F S512x128 .f32) :
    (mainTail_run (F := F) c i arg1 harg1 arg2 harg2 arg3 harg3 arg4 harg4 arg5 harg5 arg6 harg6 arg7 harg7 arg8 harg8 arg9 harg9 arg10 harg10 arg11 harg11 v2 k0_h3 x0 x1 x2 x3 x4 xs0 xs1 xs2 xs3).2.2.2.1 = overBands (maxPiece arg2 harg2 arg4 harg4 arg5 harg5 arg8 harg8 arg10 harg10 x1 x3 x4 xs0 xs2) := rfl

set_option maxHeartbeats 4000000 in
theorem drainTail_codes (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h4 : k0_cond4 i = 1#1) (hn : k0_off1 i 0 < 16) (x1 : Vec F S512x128 .f32) (x3 x4 : Vec F S1x512 .f32) (xs0 : Vec F S512x512 .f32) (xs1 : Vec F S16x512x512 .f32) (xs2 xs3 : Vec F S512x128 .f32) :
    (drainTail_run (F := F) c i arg1 harg1 arg2 harg2 arg3 harg3 arg4 harg4 arg5 harg5 arg6 harg6 arg7 harg7 arg8 harg8 arg9 harg9 arg10 harg10 arg11 harg11 v2 k0_h4 x1 x3 x4 xs0 xs1 xs2 xs3).1 = overTiles (codesPiece arg9 harg9 arg11 harg11 xs1 xs3 (blockOf i hn)) := rfl

set_option maxHeartbeats 4000000 in
theorem drainTail_acts (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h4 : k0_cond4 i = 1#1) (hn : k0_off1 i 0 < 16) (x1 : Vec F S512x128 .f32) (x3 x4 : Vec F S1x512 .f32) (xs0 : Vec F S512x512 .f32) (xs1 : Vec F S16x512x512 .f32) (xs2 xs3 : Vec F S512x128 .f32) :
    (drainTail_run (F := F) c i arg1 harg1 arg2 harg2 arg3 harg3 arg4 harg4 arg5 harg5 arg6 harg6 arg7 harg7 arg8 harg8 arg9 harg9 arg10 harg10 arg11 harg11 v2 k0_h4 x1 x3 x4 xs0 xs1 xs2 xs3).2.1 = overTiles (actPiece arg2 harg2 arg4 harg4 arg5 harg5 arg8 harg8 x1 x3 x4 xs0 (blockOf i hn)) := rfl

set_option maxHeartbeats 4000000 in
theorem drainTail_maxs (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h4 : k0_cond4 i = 1#1) (hn : k0_off1 i 0 < 16) (x1 : Vec F S512x128 .f32) (x3 x4 : Vec F S1x512 .f32) (xs0 : Vec F S512x512 .f32) (xs1 : Vec F S16x512x512 .f32) (xs2 xs3 : Vec F S512x128 .f32) :
    (drainTail_run (F := F) c i arg1 harg1 arg2 harg2 arg3 harg3 arg4 harg4 arg5 harg5 arg6 harg6 arg7 harg7 arg8 harg8 arg9 harg9 arg10 harg10 arg11 harg11 v2 k0_h4 x1 x3 x4 xs0 xs1 xs2 xs3).2.2.1 = overBands (maxPiece arg2 harg2 arg4 harg4 arg5 harg5 arg8 harg8 arg10 harg10 x1 x3 x4 xs0 xs2) := rfl

end Cert.KernelIdeal.Hand

end
-- ==== Proof.Blocks.lean ====
module

public import proofs.«01_k».proof.Proof.Pieces
public import Idealize.ShloMosaic.Lib.Pipeline.Value
public import Idealize.ShloMosaic.Lib.ValueIdx
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx

variable {F : FTy → Type} [FloatOps F]

/-- The number that a word of 32 bits stands for. -/
abbrev num (b : BitVec 32) : F .f32 := FloatOps.ofBits .f32 b

/-- One step of Horner's rule. -/
abbrev horner (t p : F .f32) (b : BitVec 32) : F .f32 := FloatOps.addf (FloatOps.mulf p t) (num b)

/-- The activation of one number, as the kernel spells it. -/
def gelu1 (z : F .f32) : F .f32 :=
  let u := FloatOps.absf z
  let t := FloatOps.divf (num 0x3F800000#32) (FloatOps.addf (num 0x3F800000#32) (FloatOps.mulf (num 0x3E99999A#32) u))
  let p := horner t (horner t (horner t (horner t (horner t (horner t (horner t (num 0x3D132D2D#32) 0xBE221320#32) 0x3E553424#32)
    0xBD62E4C2#32) 0x3E049396#32) 0x3DCC0EBC#32) 0x3DF76521#32) 0x3DF4FEAE#32
  FloatOps.subf (FloatOps.maximumf z (num 0x00000000#32))
    (FloatOps.mulf (FloatOps.mulf (FloatOps.mulf u t) p) (FloatOps.exp2 (FloatOps.mulf (FloatOps.mulf z z) (num 0xBF38AA3B#32))))

/-- A code, from an activation and the inverse scale. -/
def code1 (h inv : F .f32) : F .fp8e4m3 :=
  FloatOps.truncf .fp8e4m3 bitsLt_fp8e4m3_f32 (FloatOps.minimumf (num 0x43E00000#32) (FloatOps.maximumf (num 0xC3E00000#32) (FloatOps.mulf h inv)))

/-- A column's lane. -/
def lane {n : ℕ} (y : Fin n) : Fin 128 := ⟨y.val % 128, Nat.mod_lt _ (by decide)⟩

/-- The column of lane `l` in the `j`-th group of lanes of a tile. -/
def col (j : Fin 4) (l : Fin 128) : Fin 512 := ⟨128 * j.val + l.val, by have := j.isLt; have := l.isLt; omega⟩

/-- The codes of block `n` of a band, from the activations and inverse scales. -/
def codesOf (H : Vec F S16x512x512 .f32) (inv : Vec F S512x128 .f32) (n : Fin 16) : Vec F S512x512 .fp8e4m3 :=
  fun y => code1 (H (ix3 n (y 0) (y 1))) (inv (ix2 (y 0) (lane (y 1))))

/-- The activations of a block, from its sums, the scales of its rows and columns, and its bias. -/
def actsOf (u : Vec F S512x512 .f32) (a : Vec F S512x128 .f32) (w b : Vec F S1x512 .f32) : Vec F S512x512 .f32 :=
  fun y => gelu1 (FloatOps.addf (FloatOps.mulf (FloatOps.mulf (u y) (a (ix2 (y 0) (lane (y 1))))) (w (ix2 0 (y 1)))) (b (ix2 0 (y 1))))

/-- The activations with block `n` replaced. -/
def putBlock (H : Vec F S16x512x512 .f32) (n : Fin 16) (Y : Vec F S512x512 .f32) : Vec F S16x512x512 .f32 :=
  fun z => if (z 0).val = n.val then Y (ix2 (z 1) (z 2)) else H z

/-- The lane maxima after a block has come in. -/
def maxWith (m : Vec F S512x128 .f32) (Y : Vec F S512x512 .f32) : Vec F S512x128 .f32 :=
  fun z => FloatOps.maximumf (FloatOps.maximumf (FloatOps.maximumf (FloatOps.maximumf (m z)
    (FloatOps.absf (Y (ix2 (z 0) (col 0 (z 1)))))) (FloatOps.absf (Y (ix2 (z 0) (col 1 (z 1))))))
    (FloatOps.absf (Y (ix2 (z 0) (col 2 (z 1)))))) (FloatOps.absf (Y (ix2 (z 0) (col 3 (z 1)))))

theorem mem_overTiles {α : Type} {f : Fin 16 → Fin 4 → α} {p : α} : p ∈ overTiles f ↔ ∃ r j, p = f r j := by
  constructor
  · intro h
    simp only [overTiles, List.mem_flatMap, List.mem_cons, List.not_mem_nil, or_false] at h
    obtain ⟨r, -, h⟩ := h
    rcases h with h | h | h | h <;> exact ⟨r, _, h⟩
  · rintro ⟨r, j, rfl⟩
    simp only [overTiles, List.mem_flatMap]
    refine ⟨r, by fin_cases r <;> simp, ?_⟩
    fin_cases j <;> simp

theorem mem_overBands {α : Type} {f : Fin 16 → α} {p : α} : p ∈ overBands f ↔ ∃ r, p = f r := by
  constructor
  · intro h
    simp only [overBands, List.mem_map] at h
    obtain ⟨r, -, h⟩ := h
    exact ⟨r, h.symm⟩
  · rintro ⟨r, rfl⟩
    simp only [overBands, List.mem_map]
    exact ⟨r, by fin_cases r <;> simp, rfl⟩

theorem tile_cover (y : S512x512.Idx) : ∃ r j, y ∈ (tileRect r j).set := by
  have h0 := idx2_lt0 y; have h1 := idx2_lt1 y
  refine ⟨⟨(y 0).val / 32, by omega⟩, ⟨(y 1).val / 128, by omega⟩, ?_⟩
  rw [LoadRect.mem_set]
  intro a
  match a with
  | ⟨0, _⟩ => exact ⟨(y 0).val % 32, Nat.mod_lt _ (by decide), (by show (y 0).val = 32 * ((y 0).val / 32) + 1 * ((y 0).val % 32); omega)⟩
  | ⟨1, _⟩ => exact ⟨(y 1).val % 128, Nat.mod_lt _ (by decide), (by show (y 1).val = 128 * ((y 1).val / 128) + 1 * ((y 1).val % 128); omega)⟩

theorem band_cover (y : S512x128.Idx) : ∃ r, y ∈ (bandRect r).set := by
  have h0 := idx2_lt0 y; have h1 := idx2_lt1 y
  refine ⟨⟨(y 0).val / 32, by omega⟩, ?_⟩
  rw [LoadRect.mem_set]
  intro a
  match a with
  | ⟨0, _⟩ => exact ⟨(y 0).val % 32, Nat.mod_lt _ (by decide), (by show (y 0).val = 32 * ((y 0).val / 32) + 1 * ((y 0).val % 32); omega)⟩
  | ⟨1, _⟩ => exact ⟨(y 1).val, h1, (by show (y 1).val = 0 + 1 * (y 1).val; omega)⟩

theorem slab_cover (n : Fin 16) (z : S16x512x512.Idx) (hz : (z 0).val = n.val) : ∃ r j, z ∈ (slabRect n r j).set := by
  have h1 : (z 1).val < 512 := (z 1).isLt
  have h2 : (z 2).val < 512 := (z 2).isLt
  refine ⟨⟨(z 1).val / 32, by omega⟩, ⟨(z 2).val / 128, by omega⟩, ?_⟩
  rw [LoadRect.mem_set]
  intro a
  match a with
  | ⟨0, _⟩ => exact ⟨0, Nat.one_pos, (by show (z 0).val = n.val + 1 * 0; omega)⟩
  | ⟨1, _⟩ => exact ⟨(z 1).val % 32, Nat.mod_lt _ (by decide), (by show (z 1).val = 32 * ((z 1).val / 32) + 1 * ((z 1).val % 32); omega)⟩
  | ⟨2, _⟩ => exact ⟨(z 2).val % 128, Nat.mod_lt _ (by decide), (by show (z 2).val = 128 * ((z 2).val / 128) + 1 * ((z 2).val % 128); omega)⟩

theorem slab_first (n r : Fin 16) (j : Fin 4) (z : S16x512x512.Idx) (hz : z ∈ (slabRect n r j).set) : (z 0).val = n.val := by
  rw [LoadRect.mem_set] at hz
  obtain ⟨k, hk, h⟩ := hz 0
  have hk' : k < 1 := hk
  have h' : (z 0).val = n.val + 1 * k := h
  omega

section Tiles
variable (arg2 : Memref sig .tc .vmem S512x128 .f32) (harg2 : arg2.IsWhole) (arg4 : Memref sig .tc .vmem S1x512 .f32) (harg4 : arg4.IsWhole)
  (arg5 : Memref sig .tc .vmem S1x512 .f32) (harg5 : arg5.IsWhole) (arg8 : Memref sig .tc .vmem S512x512 .f32) (harg8 : arg8.IsWhole)
  (arg9 : Memref sig .tc .vmem S16x512x512 .f32) (harg9 : arg9.IsWhole) (arg10 : Memref sig .tc .vmem S512x128 .f32) (harg10 : arg10.IsWhole)
  (arg11 : Memref sig .tc .vmem S512x128 .f32) (harg11 : arg11.IsWhole)
  (x1 : Vec F S512x128 .f32) (x3 x4 : Vec F S1x512 .f32) (xs0 : Vec F S512x512 .f32) (xs1 : Vec F S16x512x512 .f32)
  (xs2 xs3 : Vec F S512x128 .f32)

theorem codes_agree (n r : Fin 16) (j : Fin 4) (x : S32x128.Idx) :
    (codesPiece (F := F) arg9 harg9 arg11 harg11 xs1 xs3 n r j).2 x = codesOf xs1 xs3 n ((tileRect r j).emb x) := by
  have h0 := idx2_lt0 x; have h1 := idx2_lt1 x; have hj := j.isLt
  refine congrArg₂ code1
    ((shapeCast_dropUnit_apply ![32, 128] _ _ x).trans ((Memref.IsWhole.readAt_unread harg9 xs1 (slabRect n r j).toLoadRect _).trans ?_))
    ((Memref.IsWhole.readAt_unread harg11 xs3 (bandRect r).toLoadRect x).trans ?_)
  · refine congrArg xs1 (funext fun a => Fin.ext ?_)
    match a with
    | ⟨0, _⟩ => show n.val + 1 * 0 = n.val; omega
    | ⟨1, _⟩ => rfl
    | ⟨2, _⟩ => rfl
  · refine congrArg xs3 (funext fun a => Fin.ext ?_)
    match a with
    | ⟨0, _⟩ => rfl
    | ⟨1, _⟩ => show 0 + 1 * (x 1).val = (128 * j.val + 1 * (x 1).val) % 128; omega

theorem actTile_apply (r : Fin 16) (j : Fin 4) (x : S32x128.Idx) :
    actTile (F := F) arg2 harg2 arg4 harg4 arg5 harg5 arg8 harg8 x1 x3 x4 xs0 r j x = actsOf xs0 x1 x3 x4 ((tileRect r j).emb x) := by
  have h0 := idx2_lt0 x; have h1 := idx2_lt1 x; have hj := j.isLt
  have hw : ∀ (arg : Memref sig .tc .vmem S1x512 .f32) (harg : arg.IsWhole) (w : Vec F S1x512 .f32),
      broadcastTo S32x128 (View.readAt (Elt F) arg.view (laneRect j).toLoadRect (harg.unread w)) broadcasts_S1x128_S32x128 x
        = w (ix2 0 ((tileRect r j).emb x 1)) := by
    intro arg harg w
    refine (broadcastTo_apply _ _ x (ix2 0 (x 1)) (by
      intro a
      match a with
      | ⟨0, _⟩ => rfl
      | ⟨1, _⟩ => rfl)).trans ((Memref.IsWhole.readAt_unread harg w (laneRect j).toLoadRect _).trans ?_)
    refine congrArg w (funext fun a => Fin.ext ?_)
    match a with
    | ⟨0, _⟩ => rfl
    | ⟨1, _⟩ => rfl
  refine congrArg gelu1 (congrArg₂ FloatOps.addf (congrArg₂ FloatOps.mulf (congrArg₂ FloatOps.mulf ?_ ?_) (hw arg4 harg4 x3)) (hw arg5 harg5 x4))
  · exact Memref.IsWhole.readAt_unread harg8 xs0 (tileRect r j).toLoadRect x
  refine (congrFun (shapeCast_self _ _) x).trans ((Memref.IsWhole.readAt_unread harg2 x1 (bandRect r).toLoadRect x).trans ?_)
  have e : (bandRect r).toLoadRect.idx x = ix2 ((tileRect r j).emb x 0) (lane ((tileRect r j).emb x 1)) := by
    refine funext fun a => Fin.ext ?_
    match a with
    | ⟨0, _⟩ => rfl
    | ⟨1, _⟩ => show 0 + 1 * (x 1).val = (128 * j.val + 1 * (x 1).val) % 128; omega
  exact congrArg x1 e

theorem acts_agree (n r : Fin 16) (j : Fin 4) (x : S1x32x128.Idx) :
    (actPiece (F := F) arg2 harg2 arg4 harg4 arg5 harg5 arg8 harg8 x1 x3 x4 xs0 n r j).2 x
      = putBlock xs1 n (actsOf xs0 x1 x3 x4) ((slabRect n r j).emb x) := by
  refine (shapeCast_addUnit_apply ![32, 128] (actTile arg2 harg2 arg4 harg4 arg5 harg5 arg8 harg8 x1 x3 x4 xs0 r j) _ x).trans ?_
  refine (actTile_apply arg2 harg2 arg4 harg4 arg5 harg5 arg8 harg8 x1 x3 x4 xs0 r j (fun a => x a.succ)).trans ?_
  unfold putBlock
  have hz : ((slabRect n r j).emb x 0).val = n.val := by
    have h0 : (x 0).val < 1 := (x 0).isLt
    show n.val + 1 * (x 0).val = n.val; omega
  rw [if_pos hz]
  refine congrArg _ (funext fun a => Fin.ext ?_)
  match a with
  | ⟨0, _⟩ => rfl
  | ⟨1, _⟩ => rfl

theorem maxs_agree (r : Fin 16) (x : S32x128.Idx) :
    (maxPiece (F := F) arg2 harg2 arg4 harg4 arg5 harg5 arg8 harg8 arg10 harg10 x1 x3 x4 xs0 xs2 r).2 x
      = maxWith xs2 (actsOf xs0 x1 x3 x4) ((bandRect r).emb x) := by
  have e : ∀ j : Fin 4, (tileRect r j).emb x = ix2 ((bandRect r).emb x 0) (col j ((bandRect r).emb x 1)) := by
    intro j
    refine funext fun a => Fin.ext ?_
    match a with
    | ⟨0, _⟩ => rfl
    | ⟨1, _⟩ => show 128 * j.val + 1 * (x 1).val = 128 * j.val + (0 + 1 * (x 1).val); omega
  unfold maxPiece
  refine (congrFun (shapeCast_self (s := S32x128) (maximumf (F := F) (φ := .f32) _ _) _) x).trans ?_
  have ea : ∀ j : Fin 4, FloatOps.absf (actTile (F := F) arg2 harg2 arg4 harg4 arg5 harg5 arg8 harg8 x1 x3 x4 xs0 r j x)
      = FloatOps.absf (actsOf xs0 x1 x3 x4 (ix2 ((bandRect r).emb x 0) (col j ((bandRect r).emb x 1)))) := fun j =>
    congrArg FloatOps.absf ((actTile_apply arg2 harg2 arg4 harg4 arg5 harg5 arg8 harg8 x1 x3 x4 xs0 r j x).trans
      (congrArg (actsOf xs0 x1 x3 x4) (e j)))
  exact congrArg₂ FloatOps.maximumf (congrArg₂ FloatOps.maximumf (congrArg₂ FloatOps.maximumf (congrArg₂ FloatOps.maximumf
    (Memref.IsWhole.readAt_unread harg10 xs2 (bandRect r).toLoadRect x) (ea 0)) (ea 1)) (ea 2)) (ea 3)

variable (n : Fin 16)

theorem read_codes {κ : Kind} {sp : Space} (v : View sig κ sp S512x512 .fp8e4m3) (f : v.ty.Contents (Elt F)) :
    v.read (Elt F) (v.writes (Elt F) f (overTiles (codesPiece (F := F) arg9 harg9 arg11 harg11 xs1 xs3 n))) = codesOf xs1 xs3 n := by
  funext y
  refine View.read_writes_apply_of_pieces v f (codesOf xs1 xs3 n) _ ?_ y ?_
  · intro p hp
    obtain ⟨r, j, rfl⟩ := mem_overTiles.mp hp
    exact codes_agree arg9 harg9 arg11 harg11 xs1 xs3 n r j
  · obtain ⟨r, j, h⟩ := tile_cover y
    exact ⟨_, mem_overTiles.mpr ⟨r, j, rfl⟩, h⟩

theorem read_acts :
    arg9.view.read (Elt F) (arg9.view.writes (Elt F) (harg9.unread xs1)
      (overTiles (actPiece (F := F) arg2 harg2 arg4 harg4 arg5 harg5 arg8 harg8 x1 x3 x4 xs0 n)))
      = putBlock xs1 n (actsOf xs0 x1 x3 x4) := by
  funext z
  by_cases hz : (z 0).val = n.val
  · refine View.read_writes_apply_of_pieces arg9.view _ (putBlock xs1 n (actsOf xs0 x1 x3 x4)) _ ?_ z ?_
    · intro p hp
      obtain ⟨r, j, rfl⟩ := mem_overTiles.mp hp
      exact acts_agree arg2 harg2 arg4 harg4 arg5 harg5 arg8 harg8 x1 x3 x4 xs0 xs1 n r j
    · obtain ⟨r, j, h⟩ := slab_cover n z hz
      exact ⟨_, mem_overTiles.mpr ⟨r, j, rfl⟩, h⟩
  · rw [View.read_writes_apply_of_forall_not_mem, harg9.read_unread]
    · unfold putBlock; rw [if_neg hz]
    · intro p hp hmem
      obtain ⟨r, j, rfl⟩ := mem_overTiles.mp hp
      exact hz (slab_first n r j z hmem)

theorem read_maxs {κ : Kind} {sp : Space} (v : View sig κ sp S512x128 .f32) (f : v.ty.Contents (Elt F)) :
    v.read (Elt F) (v.writes (Elt F) f
      (overBands (maxPiece (F := F) arg2 harg2 arg4 harg4 arg5 harg5 arg8 harg8 arg10 harg10 x1 x3 x4 xs0 xs2)))
      = maxWith xs2 (actsOf xs0 x1 x3 x4) := by
  funext y
  refine View.read_writes_apply_of_pieces v f (maxWith xs2 (actsOf xs0 x1 x3 x4)) _ ?_ y ?_
  · intro p hp
    obtain ⟨r, rfl⟩ := mem_overBands.mp hp
    exact maxs_agree arg2 harg2 arg4 harg4 arg5 harg5 arg8 harg8 arg10 harg10 x1 x3 x4 xs0 xs2 r
  · obtain ⟨r, h⟩ := band_cover y
    exact ⟨_, mem_overBands.mpr ⟨r, rfl⟩, h⟩

end Tiles

end Cert.KernelIdeal.Hand

end
-- ==== Proof.Triples.lean ====
module

public import proofs.«01_k».proof.Proof.Blocks

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The sums of a block: a band of rows times a band of columns. -/
def dotOf (x0 : Vec F S512x12800 .fp8e4m3) (x2 : Vec F S12800x512 .fp8e4m3) : Vec F S512x512 .f32 := k0_pay496 x0 x2

/-- The piece that holds the sums. -/
def prodPiece (arg1 : Memref sig .tc .vmem S512x12800 .fp8e4m3) (harg1 : arg1.IsWhole) (arg3 : Memref sig .tc .vmem S12800x512 .fp8e4m3) (harg3 : arg3.IsWhole)
    (x0 : Vec F S512x12800 .fp8e4m3) (x2 : Vec F S12800x512 .fp8e4m3) : View.Piece (Elt F) S512x512 .f32 :=
  ⟨Rect.unit (s := S512x512) ![0, 0] S512x512.size inb_S512x512_S512x512_0_0,
    k0_pay8 (k0_pay496 (View.readAt (Elt F) arg1.view (Rect.unit (s := S512x12800) ![0, 0] S512x12800.size inb_S512x12800_S512x12800_0_0).toLoadRect (harg1.unread x0))
      (View.readAt (Elt F) arg3.view (Rect.unit (s := S12800x512) ![0, 0] S12800x512.size inb_S12800x512_S12800x512_0_0).toLoadRect (harg3.unread x2)))⟩

set_option maxHeartbeats 4000000 in
theorem mainTail_prod (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h3 : k0_cond3 i = 1#1) (x0 : Vec F S512x12800 .fp8e4m3) (x1 : Vec F S512x128 .f32) (x2 : Vec F S12800x512 .fp8e4m3) (x3 x4 : Vec F S1x512 .f32) (xs0 : Vec F S512x512 .f32) (xs1 : Vec F S16x512x512 .f32) (xs2 xs3 : Vec F S512x128 .f32) :
    (mainTail_run (F := F) c i arg1 harg1 arg2 harg2 arg3 harg3 arg4 harg4 arg5 harg5 arg6 harg6 arg7 harg7 arg8 harg8 arg9 harg9 arg10 harg10 arg11 harg11 v2 k0_h3 x0 x1 x2 x3 x4 xs0 xs1 xs2 xs3).2.1 = [prodPiece arg1 harg1 arg3 harg3 x0 x2] := rfl

theorem readAt_whole {n k : ℕ} {e : EltTy} {sp : Space} (arg : Memref sig .tc sp ⟨2, ![n, k]⟩ e) (harg : arg.IsWhole) (x : Vec F ⟨2, ![n, k]⟩ e)
    (h : ∀ a, (![0, 0] : Fin 2 → ℕ) a + (⟨2, ![n, k]⟩ : Shape).size a ≤ (⟨2, ![n, k]⟩ : Shape).size a) :
    View.readAt (Elt F) arg.view (Rect.unit (s := ⟨2, ![n, k]⟩) ![0, 0] (⟨2, ![n, k]⟩ : Shape).size h).toLoadRect (harg.unread x) = x := by
  funext y
  refine (Memref.IsWhole.readAt_unread harg x _ y).trans (congrArg x (funext fun a => Fin.ext ?_))
  match a with
  | ⟨0, _⟩ => show 0 + 1 * (y 0).val = (y 0).val; omega
  | ⟨1, _⟩ => show 0 + 1 * (y 1).val = (y 1).val; omega

theorem read_whole {κ : Kind} {sp : Space} {n k : ℕ} {e : EltTy} (v : View sig κ sp ⟨2, ![n, k]⟩ e) (f : v.ty.Contents (Elt F)) (X : Vec F ⟨2, ![n, k]⟩ e)
    (h : ∀ a, (![0, 0] : Fin 2 → ℕ) a + (⟨2, ![n, k]⟩ : Shape).size a ≤ (⟨2, ![n, k]⟩ : Shape).size a) :
    v.read (Elt F) (v.writes (Elt F) f [⟨Rect.unit (s := ⟨2, ![n, k]⟩) ![0, 0] (⟨2, ![n, k]⟩ : Shape).size h, X⟩]) = X := by
  have he : ∀ x : (⟨2, ![n, k]⟩ : Shape).Idx, (Rect.unit (s := ⟨2, ![n, k]⟩) ![0, 0] (⟨2, ![n, k]⟩ : Shape).size h).emb x = x := by
    intro x
    refine funext fun a => Fin.ext ?_
    match a with
    | ⟨0, _⟩ => show 0 + 1 * (x 0).val = (x 0).val; omega
    | ⟨1, _⟩ => show 0 + 1 * (x 1).val = (x 1).val; omega
  funext y
  refine View.read_writes_apply_of_pieces v f X _ ?_ y ?_
  · intro p hp x
    obtain rfl := List.mem_singleton.mp hp
    exact (congrArg X (he x)).symm
  · refine ⟨_, List.mem_singleton.mpr rfl, ?_⟩
    rw [LoadRect.mem_set]
    intro a
    match a with
    | ⟨0, _⟩ => exact ⟨(y 0).val, (y 0).isLt, (by show (y 0).val = 0 + 1 * (y 0).val; omega)⟩
    | ⟨1, _⟩ => exact ⟨(y 1).val, (y 1).isLt, (by show (y 1).val = 0 + 1 * (y 1).val; omega)⟩

theorem read_prod (arg1 : Memref sig .tc .vmem S512x12800 .fp8e4m3) (harg1 : arg1.IsWhole) (arg3 : Memref sig .tc .vmem S12800x512 .fp8e4m3) (harg3 : arg3.IsWhole)
    (x0 : Vec F S512x12800 .fp8e4m3) (x2 : Vec F S12800x512 .fp8e4m3) {κ : Kind} {sp : Space} (v : View sig κ sp S512x512 .f32) (f : v.ty.Contents (Elt F)) :
    v.read (Elt F) (v.writes (Elt F) f [prodPiece arg1 harg1 arg3 harg3 x0 x2]) = dotOf x0 x2 := by
  refine (read_whole v f _ _).trans ((shapeCast_self (s := S512x512) _ _).trans ?_)
  exact congrArg₂ k0_pay496 (readAt_whole arg1 harg1 x0 _) (readAt_whole arg3 harg3 x2 _)

/-- From the pieces to the contents. -/
theorem mainTail_read (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h3 : k0_cond3 i = 1#1) (hn : k0_off1 i 0 < 16) (x0 : Vec F S512x12800 .fp8e4m3) (x1 : Vec F S512x128 .f32) (x2 : Vec F S12800x512 .fp8e4m3) (x3 x4 : Vec F S1x512 .f32) (xs0 : Vec F S512x512 .f32) (xs1 : Vec F S16x512x512 .f32) (xs2 xs3 : Vec F S512x128 .f32)
    (LC : List (View.Piece (Elt F) S512x512 .fp8e4m3)) (LS0 : List (View.Piece (Elt F) S512x512 .f32)) (LS1 : List (View.Piece (Elt F) S16x512x512 .f32)) (LS2 : List (View.Piece (Elt F) S512x128 .f32)) (hLC : LC = overTiles (codesPiece arg9 harg9 arg11 harg11 xs1 xs3 (blockOf i hn))) (hLS0 : LS0 = [prodPiece arg1 harg1 arg3 harg3 x0 x2]) (hLS1 : LS1 = overTiles (actPiece arg2 harg2 arg4 harg4 arg5 harg5 arg8 harg8 x1 x3 x4 xs0 (blockOf i hn))) (hLS2 : LS2 = overBands (maxPiece arg2 harg2 arg4 harg4 arg5 harg5 arg8 harg8 arg10 harg10 x1 x3 x4 xs0 xs2))
    (hrun : ∀ (E : Set ℕ) (K : PUnit → sProp 𝕄) (jp : PUnit.{1} → Prog (TpuEff nD τ sig (Elt F) Λ₀ .tc) PUnit), iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg8 fullShare xs0 ∗ owns (c : Thread nD τ) arg9 fullShare xs1 ∗ owns (c : Thread nD τ) arg10 fullShare xs2 ∗ owns (c : Thread nD τ) arg11 fullShare xs3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, (arg6.view.loc (c : Thread nD τ) ↦[arg6.view.set]{fullShare} arg6.view.writes (Elt F) f LC)) ∗ (∃ f, (arg8.view.loc (c : Thread nD τ) ↦[arg8.view.set]{fullShare} arg8.view.writes (Elt F) f LS0)) ∗ (arg9.view.loc (c : Thread nD τ) ↦[arg9.view.set]{fullShare} arg9.view.writes (Elt F) (harg9.unread xs1) LS1) ∗ (∃ f, (arg10.view.loc (c : Thread nD τ) ↦[arg10.view.set]{fullShare} arg10.view.writes (Elt F) f LS2)) ∗ owns (c : Thread nD τ) arg11 fullShare xs3) -∗ wp frame (wpE (defs₀ (F := F)) Variants.none c none) E (jp ⟨⟩) K))
      ⊢ wp frame (wpE (defs₀ (F := F)) Variants.none c none) E (mainTail i arg1 harg1 arg2 harg2 arg3 harg3 arg4 harg4 arg5 harg5 arg6 harg6 arg7 harg7 arg8 harg8 arg9 harg9 arg10 harg10 arg11 harg11 v2 k0_h3 jp) K) (E : Set ℕ) (K : PUnit → sProp 𝕄) (jp : PUnit.{1} → Prog (TpuEff nD τ sig (Elt F) Λ₀ .tc) PUnit) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg8 fullShare xs0 ∗ owns (c : Thread nD τ) arg9 fullShare xs1 ∗ owns (c : Thread nD τ) arg10 fullShare xs2 ∗ owns (c : Thread nD τ) arg11 fullShare xs3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesOf xs1 xs3 (blockOf i hn)) ∗ owns (c : Thread nD τ) arg8 fullShare (dotOf x0 x2) ∗ owns (c : Thread nD τ) arg9 fullShare (putBlock xs1 (blockOf i hn) (actsOf xs0 x1 x3 x4)) ∗ owns (c : Thread nD τ) arg10 fullShare (maxWith xs2 (actsOf xs0 x1 x3 x4)) ∗ owns (c : Thread nD τ) arg11 fullShare xs3) -∗ wp frame (wpE (defs₀ (F := F)) Variants.none c none) E (jp ⟨⟩) K))
      ⊢ wp frame (wpE (defs₀ (F := F)) Variants.none c none) E (mainTail i arg1 harg1 arg2 harg2 arg3 harg3 arg4 harg4 arg5 harg5 arg6 harg6 arg7 harg7 arg8 harg8 arg9 harg9 arg10 harg10 arg11 harg11 v2 k0_h3 jp) K := by
  subst hLC hLS0 hLS1 hLS2
  refine BIBase.Entails.trans ?_ (hrun E K jp)
  unfold owns
  iintro ⟨H1, H2, H3, H4, H5, H6, H8, H9, H10, H11, Hk⟩
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H1, H2, H3, H4, H5, ⟨%f6, H6⟩, ⟨%f8, H8⟩, H9, ⟨%f10, H10⟩, H11⟩
  iapply Hk
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact read_codes arg9 harg9 arg11 harg11 xs1 xs3 (blockOf i hn) arg6.view f6
  isplitl [H8]
  · iexists _; isplitr; swap; · iexact H8
    ipureintro; exact read_prod arg1 harg1 arg3 harg3 x0 x2 arg8.view f8
  isplitl [H9]
  · iexists _; isplitr; swap; · iexact H9
    ipureintro; exact read_acts arg2 harg2 arg4 harg4 arg5 harg5 arg8 harg8 arg9 harg9 x1 x3 x4 xs0 xs1 (blockOf i hn)
  isplitl [H10]
  · iexists _; isplitr; swap; · iexact H10
    ipureintro; exact read_maxs arg2 harg2 arg4 harg4 arg5 harg5 arg8 harg8 arg10 harg10 x1 x3 x4 xs0 xs2 arg10.view f10
  iexact H11

theorem mainTail_triple (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h3 : k0_cond3 i = 1#1) (hn : k0_off1 i 0 < 16) (x0 : Vec F S512x12800 .fp8e4m3) (x1 : Vec F S512x128 .f32) (x2 : Vec F S12800x512 .fp8e4m3) (x3 x4 : Vec F S1x512 .f32) (xs0 : Vec F S512x512 .f32) (xs1 : Vec F S16x512x512 .f32) (xs2 xs3 : Vec F S512x128 .f32) (E : Set ℕ) (K : PUnit → sProp 𝕄) (jp : PUnit.{1} → Prog (TpuEff nD τ sig (Elt F) Λ₀ .tc) PUnit) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg8 fullShare xs0 ∗ owns (c : Thread nD τ) arg9 fullShare xs1 ∗ owns (c : Thread nD τ) arg10 fullShare xs2 ∗ owns (c : Thread nD τ) arg11 fullShare xs3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesOf xs1 xs3 (blockOf i hn)) ∗ owns (c : Thread nD τ) arg8 fullShare (dotOf x0 x2) ∗ owns (c : Thread nD τ) arg9 fullShare (putBlock xs1 (blockOf i hn) (actsOf xs0 x1 x3 x4)) ∗ owns (c : Thread nD τ) arg10 fullShare (maxWith xs2 (actsOf xs0 x1 x3 x4)) ∗ owns (c : Thread nD τ) arg11 fullShare xs3) -∗ wp frame (wpE (defs₀ (F := F)) Variants.none c none) E (jp ⟨⟩) K))
      ⊢ wp frame (wpE (defs₀ (F := F)) Variants.none c none) E (mainTail i arg1 harg1 arg2 harg2 arg3 harg3 arg4 harg4 arg5 harg5 arg6 harg6 arg7 harg7 arg8 harg8 arg9 harg9 arg10 harg10 arg11 harg11 v2 k0_h3 jp) K :=
  mainTail_read c i arg1 harg1 arg2 harg2 arg3 harg3 arg4 harg4 arg5 harg5 arg6 harg6 arg7 harg7 arg8 harg8 arg9 harg9 arg10 harg10 arg11 harg11 v2 k0_h3 hn x0 x1 x2 x3 x4 xs0 xs1 xs2 xs3 _ _ _ _
    (mainTail_codes c i arg1 harg1 arg2 harg2 arg3 harg3 arg4 harg4 arg5 harg5 arg6 harg6 arg7 harg7 arg8 harg8 arg9 harg9 arg10 harg10 arg11 harg11 v2 k0_h3 hn x0 x2 x1 x3 x4 xs0 xs1 xs2 xs3) (mainTail_prod c i arg1 harg1 arg2 harg2 arg3 harg3 arg4 harg4 arg5 harg5 arg6 harg6 arg7 harg7 arg8 harg8 arg9 harg9 arg10 harg10 arg11 harg11 v2 k0_h3 x0 x1 x2 x3 x4 xs0 xs1 xs2 xs3) (mainTail_acts c i arg1 harg1 arg2 harg2 arg3 harg3 arg4 harg4 arg5 harg5 arg6 harg6 arg7 harg7 arg8 harg8 arg9 harg9 arg10 harg10 arg11 harg11 v2 k0_h3 hn x0 x2 x1 x3 x4 xs0 xs1 xs2 xs3)
    (mainTail_maxs c i arg1 harg1 arg2 harg2 arg3 harg3 arg4 harg4 arg5 harg5 arg6 harg6 arg7 harg7 arg8 harg8 arg9 harg9 arg10 harg10 arg11 harg11 v2 k0_h3 hn x0 x2 x1 x3 x4 xs0 xs1 xs2 xs3) (mainTail_run c i arg1 harg1 arg2 harg2 arg3 harg3 arg4 harg4 arg5 harg5 arg6 harg6 arg7 harg7 arg8 harg8 arg9 harg9 arg10 harg10 arg11 harg11 v2 k0_h3 x0 x1 x2 x3 x4 xs0 xs1 xs2 xs3).2.2.2.property E K jp

/-- From the pieces to the contents. -/
theorem drainTail_read (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h4 : k0_cond4 i = 1#1) (hn : k0_off1 i 0 < 16) (x1 : Vec F S512x128 .f32) (x3 x4 : Vec F S1x512 .f32) (xs0 : Vec F S512x512 .f32) (xs1 : Vec F S16x512x512 .f32) (xs2 xs3 : Vec F S512x128 .f32)
    (LC : List (View.Piece (Elt F) S512x512 .fp8e4m3)) (LS1 : List (View.Piece (Elt F) S16x512x512 .f32)) (LS2 : List (View.Piece (Elt F) S512x128 .f32)) (hLC : LC = overTiles (codesPiece arg9 harg9 arg11 harg11 xs1 xs3 (blockOf i hn))) (hLS1 : LS1 = overTiles (actPiece arg2 harg2 arg4 harg4 arg5 harg5 arg8 harg8 x1 x3 x4 xs0 (blockOf i hn))) (hLS2 : LS2 = overBands (maxPiece arg2 harg2 arg4 harg4 arg5 harg5 arg8 harg8 arg10 harg10 x1 x3 x4 xs0 xs2))
    (hrun : ∀ (E : Set ℕ) (K : PUnit → sProp 𝕄) (jp : PUnit.{1} → Prog (TpuEff nD τ sig (Elt F) Λ₀ .tc) PUnit), iprop(owns (c : Thread nD τ) arg2 fullShare x1 ∗ owns (c : Thread nD τ) arg4 fullShare x3 ∗ owns (c : Thread nD τ) arg5 fullShare x4 ∗ (∃ d, owns (c : Thread nD τ) arg6 fullShare d) ∗ owns (c : Thread nD τ) arg8 fullShare xs0 ∗ owns (c : Thread nD τ) arg9 fullShare xs1 ∗ owns (c : Thread nD τ) arg10 fullShare xs2 ∗ owns (c : Thread nD τ) arg11 fullShare xs3
        ∗ (iprop(owns (c : Thread nD τ) arg2 fullShare x1 ∗ owns (c : Thread nD τ) arg4 fullShare x3 ∗ owns (c : Thread nD τ) arg5 fullShare x4 ∗ (∃ f, (arg6.view.loc (c : Thread nD τ) ↦[arg6.view.set]{fullShare} arg6.view.writes (Elt F) f LC)) ∗ owns (c : Thread nD τ) arg8 fullShare xs0 ∗ (arg9.view.loc (c : Thread nD τ) ↦[arg9.view.set]{fullShare} arg9.view.writes (Elt F) (harg9.unread xs1) LS1) ∗ (∃ f, (arg10.view.loc (c : Thread nD τ) ↦[arg10.view.set]{fullShare} arg10.view.writes (Elt F) f LS2)) ∗ owns (c : Thread nD τ) arg11 fullShare xs3) -∗ wp frame (wpE (defs₀ (F := F)) Variants.none c none) E (jp ⟨⟩) K))
      ⊢ wp frame (wpE (defs₀ (F := F)) Variants.none c none) E (drainTail i arg1 harg1 arg2 harg2 arg3 harg3 arg4 harg4 arg5 harg5 arg6 harg6 arg7 harg7 arg8 harg8 arg9 harg9 arg10 harg10 arg11 harg11 v2 k0_h4 jp) K) (E : Set ℕ) (K : PUnit → sProp 𝕄) (jp : PUnit.{1} → Prog (TpuEff nD τ sig (Elt F) Λ₀ .tc) PUnit) :
    iprop(owns (c : Thread nD τ) arg2 fullShare x1 ∗ owns (c : Thread nD τ) arg4 fullShare x3 ∗ owns (c : Thread nD τ) arg5 fullShare x4 ∗ (∃ d, owns (c : Thread nD τ) arg6 fullShare d) ∗ owns (c : Thread nD τ) arg8 fullShare xs0 ∗ owns (c : Thread nD τ) arg9 fullShare xs1 ∗ owns (c : Thread nD τ) arg10 fullShare xs2 ∗ owns (c : Thread nD τ) arg11 fullShare xs3
        ∗ (iprop(owns (c : Thread nD τ) arg2 fullShare x1 ∗ owns (c : Thread nD τ) arg4 fullShare x3 ∗ owns (c : Thread nD τ) arg5 fullShare x4 ∗ owns (c : Thread nD τ) arg6 fullShare (codesOf xs1 xs3 (blockOf i hn)) ∗ owns (c : Thread nD τ) arg8 fullShare xs0 ∗ owns (c : Thread nD τ) arg9 fullShare (putBlock xs1 (blockOf i hn) (actsOf xs0 x1 x3 x4)) ∗ owns (c : Thread nD τ) arg10 fullShare (maxWith xs2 (actsOf xs0 x1 x3 x4)) ∗ owns (c : Thread nD τ) arg11 fullShare xs3) -∗ wp frame (wpE (defs₀ (F := F)) Variants.none c none) E (jp ⟨⟩) K))
      ⊢ wp frame (wpE (defs₀ (F := F)) Variants.none c none) E (drainTail i arg1 harg1 arg2 harg2 arg3 harg3 arg4 harg4 arg5 harg5 arg6 harg6 arg7 harg7 arg8 harg8 arg9 harg9 arg10 harg10 arg11 harg11 v2 k0_h4 jp) K := by
  subst hLC hLS1 hLS2
  refine BIBase.Entails.trans ?_ (hrun E K jp)
  unfold owns
  iintro ⟨H2, H4, H5, H6, H8, H9, H10, H11, Hk⟩
  isplitl [H2]; · iexact H2
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H2, H4, H5, ⟨%f6, H6⟩, H8, H9, ⟨%f10, H10⟩, H11⟩
  iapply Hk
  isplitl [H2]; · iexact H2
  isplitl [H4]; · iexact H4
  isplitl [H5]; · iexact H5
  isplitl [H6]
  · iexists _; isplitr; swap; · iexact H6
    ipureintro; exact read_codes arg9 harg9 arg11 harg11 xs1 xs3 (blockOf i hn) arg6.view f6
  isplitl [H8]; · iexact H8
  isplitl [H9]
  · iexists _; isplitr; swap; · iexact H9
    ipureintro; exact read_acts arg2 harg2 arg4 harg4 arg5 harg5 arg8 harg8 arg9 harg9 x1 x3 x4 xs0 xs1 (blockOf i hn)
  isplitl [H10]
  · iexists _; isplitr; swap; · iexact H10
    ipureintro; exact read_maxs arg2 harg2 arg4 harg4 arg5 harg5 arg8 harg8 arg10 harg10 x1 x3 x4 xs0 xs2 arg10.view f10
  iexact H11

theorem drainTail_triple (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (v2 : BitVec 32) (k0_h4 : k0_cond4 i = 1#1) (hn : k0_off1 i 0 < 16) (x1 : Vec F S512x128 .f32) (x3 x4 : Vec F S1x512 .f32) (xs0 : Vec F S512x512 .f32) (xs1 : Vec F S16x512x512 .f32) (xs2 xs3 : Vec F S512x128 .f32) (E : Set ℕ) (K : PUnit → sProp 𝕄) (jp : PUnit.{1} → Prog (TpuEff nD τ sig (Elt F) Λ₀ .tc) PUnit) :
    iprop(owns (c : Thread nD τ) arg2 fullShare x1 ∗ owns (c : Thread nD τ) arg4 fullShare x3 ∗ owns (c : Thread nD τ) arg5 fullShare x4 ∗ (∃ d, owns (c : Thread nD τ) arg6 fullShare d) ∗ owns (c : Thread nD τ) arg8 fullShare xs0 ∗ owns (c : Thread nD τ) arg9 fullShare xs1 ∗ owns (c : Thread nD τ) arg10 fullShare xs2 ∗ owns (c : Thread nD τ) arg11 fullShare xs3
        ∗ (iprop(owns (c : Thread nD τ) arg2 fullShare x1 ∗ owns (c : Thread nD τ) arg4 fullShare x3 ∗ owns (c : Thread nD τ) arg5 fullShare x4 ∗ owns (c : Thread nD τ) arg6 fullShare (codesOf xs1 xs3 (blockOf i hn)) ∗ owns (c : Thread nD τ) arg8 fullShare xs0 ∗ owns (c : Thread nD τ) arg9 fullShare (putBlock xs1 (blockOf i hn) (actsOf xs0 x1 x3 x4)) ∗ owns (c : Thread nD τ) arg10 fullShare (maxWith xs2 (actsOf xs0 x1 x3 x4)) ∗ owns (c : Thread nD τ) arg11 fullShare xs3) -∗ wp frame (wpE (defs₀ (F := F)) Variants.none c none) E (jp ⟨⟩) K))
      ⊢ wp frame (wpE (defs₀ (F := F)) Variants.none c none) E (drainTail i arg1 harg1 arg2 harg2 arg3 harg3 arg4 harg4 arg5 harg5 arg6 harg6 arg7 harg7 arg8 harg8 arg9 harg9 arg10 harg10 arg11 harg11 v2 k0_h4 jp) K :=
  drainTail_read c i arg1 harg1 arg2 harg2 arg3 harg3 arg4 harg4 arg5 harg5 arg6 harg6 arg7 harg7 arg8 harg8 arg9 harg9 arg10 harg10 arg11 harg11 v2 k0_h4 hn x1 x3 x4 xs0 xs1 xs2 xs3 _ _ _
    (drainTail_codes c i arg1 harg1 arg2 harg2 arg3 harg3 arg4 harg4 arg5 harg5 arg6 harg6 arg7 harg7 arg8 harg8 arg9 harg9 arg10 harg10 arg11 harg11 v2 k0_h4 hn x1 x3 x4 xs0 xs1 xs2 xs3) (drainTail_acts c i arg1 harg1 arg2 harg2 arg3 harg3 arg4 harg4 arg5 harg5 arg6 harg6 arg7 harg7 arg8 harg8 arg9 harg9 arg10 harg10 arg11 harg11 v2 k0_h4 hn x1 x3 x4 xs0 xs1 xs2 xs3)
    (drainTail_maxs c i arg1 harg1 arg2 harg2 arg3 harg3 arg4 harg4 arg5 harg5 arg6 harg6 arg7 harg7 arg8 harg8 arg9 harg9 arg10 harg10 arg11 harg11 v2 k0_h4 hn x1 x3 x4 xs0 xs1 xs2 xs3) (drainTail_run c i arg1 harg1 arg2 harg2 arg3 harg3 arg4 harg4 arg5 harg5 arg6 harg6 arg7 harg7 arg8 harg8 arg9 harg9 arg10 harg10 arg11 harg11 v2 k0_h4 x1 x3 x4 xs0 xs1 xs2 xs3).2.2.property E K jp

end Cert.KernelIdeal.Hand

end
-- ==== Proof.Heads.lean ====
module

public import proofs.«01_k».proof.Proof.Triples

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body does at the first point: it empties its scratch. -/
def resetAll (arg8 : Memref sig .tc .vmem S512x512 .f32) (arg9 : Memref sig .tc .vmem S16x512x512 .f32) (arg10 : Memref sig .tc .vmem S512x128 .f32) (arg11 : Memref sig .tc .vmem S512x128 .f32) (jp : PUnit.{1} → Prog (TpuEff nD τ sig (Elt F) Λ₀ .tc) PUnit) : Prog (TpuEff nD τ sig (Elt F) Λ₀ .tc) PUnit := do
  let v16 : Vec F S512x512 .f32 ← Prog.lift (.load arg8 (Rect.unit (s := S512x512) ![0, 0] S512x512.size inb_S512x512_S512x512_0_0).toLoadRect (View.loadsAt_vmem h_S512x512))
  Prog.lift (.store arg8 (Rect.unit (s := S512x512) ![0, 0] S512x512.size inb_S512x512_S512x512_0_0) (k0_pay1 (F := F)) Finset.univ (View.stores_vmem_bits_univ h_S512x512 rfl) (.inl rfl))
  let v20 : Vec F S16x512x512 .f32 ← Prog.lift (.load arg9 (Rect.unit (s := S16x512x512) ![0, 0, 0] S16x512x512.size inb_S16x512x512_S16x512x512_0_0_0).toLoadRect (View.loadsAt_vmem h_S16x512x512))
  Prog.lift (.store arg9 (Rect.unit (s := S16x512x512) ![0, 0, 0] S16x512x512.size inb_S16x512x512_S16x512x512_0_0_0) (k0_pay2 (F := F)) Finset.univ (View.stores_vmem_bits_univ h_S16x512x512 rfl) (.inl rfl))
  let v24 : Vec F S512x128 .f32 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) (k0_pay3 (F := F)) Finset.univ (View.stores_vmem_bits_univ h_S512x128 rfl) (.inl rfl))
  let v28 : Vec F S512x128 .f32 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (k0_pay4 (F := F)) Finset.univ (View.stores_vmem_bits_univ h_S512x128 rfl) (.inl rfl))
  jp ⟨⟩

/-- What the body does when a band's activations are all there: it writes the band's scales, keeps their inverses, and starts the next band's
    maxima. -/
def setScale (arg7 : Memref sig .tc .vmem S512x128 .f32) (arg10 : Memref sig .tc .vmem S512x128 .f32) (arg11 : Memref sig .tc .vmem S512x128 .f32) (jp : PUnit.{1} → Prog (TpuEff nD τ sig (Elt F) Λ₀ .tc) PUnit) : Prog (TpuEff nD τ sig (Elt F) Λ₀ .tc) PUnit := do
  let v15 : Vec F S512x128 .f32 ← Prog.lift (.load arg10 (Rect.unit (s := S512x128) ![0, 0] S512x128.size inb_S512x128_S512x128_0_0).toLoadRect (View.loadsAt_vmem h_S512x128))
  let v26 : Vec F S512x128 .f32 ← Prog.lift (.load arg7 (Rect.unit (s := S512x128) ![0, 0] S512x128.size inb_S512x128_S512x128_0_0).toLoadRect (View.loadsAt_vmem h_S512x128))
  Prog.lift (.store arg7 (Rect.unit (s := S512x128) ![0, 0] S512x128.size inb_S512x128_S512x128_0_0) (k0_pay5 v15) Finset.univ (View.stores_vmem_bits_univ h_S512x128 rfl) (.inl rfl))
  let v29 : Vec F S512x128 .f32 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (k0_pay6 v15) Finset.univ (View.stores_vmem_bits_univ h_S512x128 rfl) (.inl rfl))
  let v33 : Vec F S512x128 .f32 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) (k0_pay7 (F := F)) Finset.univ (View.stores_vmem_bits_univ h_S512x128 rfl) (.inl rfl))
  jp ⟨⟩

/-- The body's last block: the points that only drain. -/
def stage4 (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) : PUnit.{1} → Prog (TpuEff nD τ sig (Elt F) Λ₀ .tc) PUnit := fun _ =>
  if h : k0_cond4 i = 1#1 then drainTail i arg1 harg1 arg2 harg2 arg3 harg3 arg4 harg4 arg5 harg5 arg6 harg6 arg7 harg7 arg8 harg8 arg9 harg9 arg10 harg10 arg11 harg11 (Scalar.remsi (Scalar.addi (Scalar.subi (BitVec.ofNat 32 (i 0).val) 1#32) 16#32) 16#32) h (fun _ => pure ⟨⟩) else pure ⟨⟩

/-- The points that multiply, and what follows. -/
def stage3 (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) : PUnit.{1} → Prog (TpuEff nD τ sig (Elt F) Λ₀ .tc) PUnit := fun _ =>
  if h : k0_cond3 i = 1#1 then mainTail i arg1 harg1 arg2 harg2 arg3 harg3 arg4 harg4 arg5 harg5 arg6 harg6 arg7 harg7 arg8 harg8 arg9 harg9 arg10 harg10 arg11 harg11 (Scalar.remsi (Scalar.addi (Scalar.subi (BitVec.ofNat 32 (i 0).val) 1#32) 16#32) 16#32) h (stage4 i arg1 harg1 arg2 harg2 arg3 harg3 arg4 harg4 arg5 harg5 arg6 harg6 arg7 harg7 arg8 harg8 arg9 harg9 arg10 harg10 arg11 harg11) else stage4 i arg1 harg1 arg2 harg2 arg3 harg3 arg4 harg4 arg5 harg5 arg6 harg6 arg7 harg7 arg8 harg8 arg9 harg9 arg10 harg10 arg11 harg11 ⟨⟩

/-- The scales, and what follows. -/
def stage2 (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) : PUnit.{1} → Prog (TpuEff nD τ sig (Elt F) Λ₀ .tc) PUnit := fun _ =>
  if h : k0_cond2 i = 1#1 then setScale arg7 arg10 arg11 (stage3 i arg1 harg1 arg2 harg2 arg3 harg3 arg4 harg4 arg5 harg5 arg6 harg6 arg7 harg7 arg8 harg8 arg9 harg9 arg10 harg10 arg11 harg11) else stage3 i arg1 harg1 arg2 harg2 arg3 harg3 arg4 harg4 arg5 harg5 arg6 harg6 arg7 harg7 arg8 harg8 arg9 harg9 arg10 harg10 arg11 harg11 ⟨⟩

/-- The whole body, block by block. -/
def stage1 (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) : Prog (TpuEff nD τ sig (Elt F) Λ₀ .tc) PUnit :=
  if h : Scalar.cmpi .ne (Scalar.extui (Scalar.cmpi .eq (BitVec.ofNat 32 (i 0).val) 0#32)) 0#32 = 1#1 then resetAll arg8 arg9 arg10 arg11 (stage2 i arg1 harg1 arg2 harg2 arg3 harg3 arg4 harg4 arg5 harg5 arg6 harg6 arg7 harg7 arg8 harg8 arg9 harg9 arg10 harg10 arg11 harg11) else stage2 i arg1 harg1 arg2 harg2 arg3 harg3 arg4 harg4 arg5 harg5 arg6 harg6 arg7 harg7 arg8 harg8 arg9 harg9 arg10 harg10 arg11 harg11 ⟨⟩

theorem body_eq (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) :
    cc0_mm1_gelu_quant (F := F) i arg1 harg1 arg2 harg2 arg3 harg3 arg4 harg4 arg5 harg5 arg6 harg6 arg7 harg7 arg8 harg8 arg9 harg9 arg10 harg10 arg11 harg11 = stage1 i arg1 harg1 arg2 harg2 arg3 harg3 arg4 harg4 arg5 harg5 arg6 harg6 arg7 harg7 arg8 harg8 arg9 harg9 arg10 harg10 arg11 harg11 := by
  rw [cc0_mm1_gelu_quant_eq_skeleton]; rfl

theorem read_whole3 {κ : Kind} {sp : Space} {a b d : ℕ} {e : EltTy} (v : View sig κ sp ⟨3, ![a, b, d]⟩ e) (f : v.ty.Contents (Elt F)) (X : Vec F ⟨3, ![a, b, d]⟩ e)
    (h : ∀ j, (![0, 0, 0] : Fin 3 → ℕ) j + (⟨3, ![a, b, d]⟩ : Shape).size j ≤ (⟨3, ![a, b, d]⟩ : Shape).size j) :
    v.read (Elt F) (v.writes (Elt F) f [⟨Rect.unit (s := ⟨3, ![a, b, d]⟩) ![0, 0, 0] (⟨3, ![a, b, d]⟩ : Shape).size h, X⟩]) = X := by
  have he : ∀ x : (⟨3, ![a, b, d]⟩ : Shape).Idx, (Rect.unit (s := ⟨3, ![a, b, d]⟩) ![0, 0, 0] (⟨3, ![a, b, d]⟩ : Shape).size h).emb x = x := by
    intro x
    refine funext fun j => Fin.ext ?_
    match j with
    | ⟨0, _⟩ => show 0 + 1 * (x 0).val = (x 0).val; omega
    | ⟨1, _⟩ => show 0 + 1 * (x 1).val = (x 1).val; omega
    | ⟨2, _⟩ => show 0 + 1 * (x 2).val = (x 2).val; omega
  funext y
  refine View.read_writes_apply_of_pieces v f X _ ?_ y ?_
  · intro p hp x
    obtain rfl := List.mem_singleton.mp hp
    exact (congrArg X (he x)).symm
  · refine ⟨_, List.mem_singleton.mpr rfl, ?_⟩
    rw [LoadRect.mem_set]
    intro j
    match j with
    | ⟨0, _⟩ => exact ⟨(y 0).val, (y 0).isLt, (by show (y 0).val = 0 + 1 * (y 0).val; omega)⟩
    | ⟨1, _⟩ => exact ⟨(y 1).val, (y 1).isLt, (by show (y 1).val = 0 + 1 * (y 1).val; omega)⟩
    | ⟨2, _⟩ => exact ⟨(y 2).val, (y 2).isLt, (by show (y 2).val = 0 + 1 * (y 2).val; omega)⟩

theorem resetAll_triple (c : Dev nD) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (E : Set ℕ) (K : PUnit → sProp 𝕄) (jp : PUnit.{1} → Prog (TpuEff nD τ sig (Elt F) Λ₀ .tc) PUnit) :
    iprop((∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg8 fullShare (k0_pay1 (F := F)) ∗ owns (c : Thread nD τ) arg9 fullShare (k0_pay2 (F := F)) ∗ owns (c : Thread nD τ) arg10 fullShare (k0_pay3 (F := F)) ∗ owns (c : Thread nD τ) arg11 fullShare (k0_pay4 (F := F))) -∗ wp frame (wpE (defs₀ (F := F)) Variants.none c none) E (jp ⟨⟩) K))
      ⊢ wp frame (wpE (defs₀ (F := F)) Variants.none c none) E (resetAll arg8 arg9 arg10 arg11 jp) K := by
  unfold resetAll owns
  iintro ⟨⟨%d8, %f8, -, H8⟩, ⟨%d9, %f9, -, H9⟩, ⟨%d10, %f10, -, H10⟩, ⟨%d11, %f11, -, H11⟩, Hk⟩
  sl_exec
  iapply Hk
  isplitl [H8]
  · iexists _; isplitr; swap; · iexact H8
    ipureintro; exact read_whole arg8.view _ _ _
  isplitl [H9]
  · iexists _; isplitr; swap; · iexact H9
    ipureintro; exact read_whole3 arg9.view _ _ _
  isplitl [H10]
  · iexists _; isplitr; swap; · iexact H10
    ipureintro; exact read_whole arg10.view _ _ _
  iexists _; isplitr; swap; · iexact H11
  ipureintro; exact read_whole arg11.view _ _ _

theorem setScale_triple (c : Dev nD) (arg7 : Memref sig .tc .vmem S512x128 .f32) (harg7 : arg7.IsWhole) (arg10 : Memref sig .tc .vmem S512x128 .f32) (harg10 : arg10.IsWhole) (arg11 : Memref sig .tc .vmem S512x128 .f32) (harg11 : arg11.IsWhole) (xs2 : Vec F S512x128 .f32) (E : Set ℕ) (K : PUnit → sProp 𝕄) (jp : PUnit.{1} → Prog (TpuEff nD τ sig (Elt F) Λ₀ .tc) PUnit) :
    iprop((∃ d, owns (c : Thread nD τ) arg7 fullShare d) ∗ owns (c : Thread nD τ) arg10 fullShare xs2 ∗ (∃ d, owns (c : Thread nD τ) arg11 fullShare d)
        ∗ (iprop(owns (c : Thread nD τ) arg7 fullShare (k0_pay5 xs2) ∗ owns (c : Thread nD τ) arg10 fullShare (k0_pay7 (F := F)) ∗ owns (c : Thread nD τ) arg11 fullShare (k0_pay6 xs2)) -∗ wp frame (wpE (defs₀ (F := F)) Variants.none c none) E (jp ⟨⟩) K))
      ⊢ wp frame (wpE (defs₀ (F := F)) Variants.none c none) E (setScale arg7 arg10 arg11 jp) K := by
  unfold setScale owns
  iintro ⟨⟨%d7, %f7, -, H7⟩, ⟨%f10, %hf10, H10⟩, ⟨%d11, %f11, -, H11⟩, Hk⟩
  obtain rfl := harg10.eq_unread hf10
  sl_exec
  iapply Hk
  isplitl [H7]
  · iexists _; isplitr; swap; · iexact H7
    ipureintro; exact Eq.trans (read_whole arg7.view f7 _ _) (congrArg k0_pay5 (readAt_whole arg10 harg10 xs2 _))
  isplitl [H10]
  · iexists _; isplitr; swap; · iexact H10
    ipureintro; exact read_whole arg10.view _ _ _
  iexists _; isplitr; swap; · iexact H11
  ipureintro; exact Eq.trans (read_whole arg11.view f11 _ _) (congrArg k0_pay6 (readAt_whole arg10 harg10 xs2 _))

end Cert.KernelIdeal.Hand

end
-- ==== Proof.Body.lean ====
module

public import proofs.«01_k».proof.Proof.Heads

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the scratch holds between points: the sums of the block whose activations are due, the activations of the last sixteen blocks, the
    greatest magnitude each lane of a row has met in its band, and the inverse scales of the band being written. -/
structure St (F : FTy → Type) where
  raw : Vec F S512x512 .f32
  acts : Vec F S16x512x512 .f32
  maxs : Vec F S512x128 .f32
  invs : Vec F S512x128 .f32

/-- The scratch as the first point sets it. -/
def St.zero : St F := ⟨k0_pay1, k0_pay2, k0_pay3, k0_pay4⟩

/-- The scratch after a band's scales are taken. -/
def St.scaled (s : St F) : St F := ⟨s.raw, s.acts, k0_pay7, k0_pay6 s.maxs⟩

/-- The scratch after block `n`'s activations are put away and the next block's sums, if there is one, are taken. -/
def St.next (s : St F) (n : Fin 16) (more : Prop) [Decidable more] (x0 : Vec F S512x12800 .fp8e4m3) (x1 : Vec F S512x128 .f32) (x2 : Vec F S12800x512 .fp8e4m3) (x3 x4 : Vec F S1x512 .f32) : St F :=
  ⟨if more then dotOf x0 x2 else s.raw, putBlock s.acts n (actsOf s.raw x1 x3 x4), maxWith s.maxs (actsOf s.raw x1 x3 x4), s.invs⟩

theorem stage3_triple (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (hn : k0_off1 i 0 < 16) (h34 : ¬ k0_cond3 i = 1#1 → k0_cond4 i = 1#1)
    (h43 : k0_cond3 i = 1#1 → ¬ k0_cond4 i = 1#1) (x0 : Vec F S512x12800 .fp8e4m3) (x1 : Vec F S512x128 .f32) (x2 : Vec F S12800x512 .fp8e4m3) (x3 x4 : Vec F S1x512 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg8 fullShare s.raw ∗ owns (c : Thread nD τ) arg9 fullShare s.acts ∗ owns (c : Thread nD τ) arg10 fullShare s.maxs ∗ owns (c : Thread nD τ) arg11 fullShare s.invs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesOf s.acts s.invs (blockOf i hn)) ∗ owns (c : Thread nD τ) arg8 fullShare ((s.next (blockOf i hn) (k0_cond3 i = 1#1) x0 x1 x2 x3 x4).raw) ∗ owns (c : Thread nD τ) arg9 fullShare ((s.next (blockOf i hn) (k0_cond3 i = 1#1) x0 x1 x2 x3 x4).acts) ∗ owns (c : Thread nD τ) arg10 fullShare ((s.next (blockOf i hn) (k0_cond3 i = 1#1) x0 x1 x2 x3 x4).maxs) ∗ owns (c : Thread nD τ) arg11 fullShare ((s.next (blockOf i hn) (k0_cond3 i = 1#1) x0 x1 x2 x3 x4).invs)) -∗ K ⟨⟩))
      ⊢ wp frame (wpE (defs₀ (F := F)) Variants.none c none) E (stage3 i arg1 harg1 arg2 harg2 arg3 harg3 arg4 harg4 arg5 harg5 arg6 harg6 arg7 harg7 arg8 harg8 arg9 harg9 arg10 harg10 arg11 harg11 ⟨⟩) K := by
  unfold stage3 stage4
  by_cases h3 : k0_cond3 i = 1#1
  · rw [dif_pos h3]
    refine BIBase.Entails.trans ?_ (mainTail_triple c i arg1 harg1 arg2 harg2 arg3 harg3 arg4 harg4 arg5 harg5 arg6 harg6 arg7 harg7 arg8 harg8 arg9 harg9 arg10 harg10 arg11 harg11 (Scalar.remsi (Scalar.addi (Scalar.subi (BitVec.ofNat 32 (i 0).val) 1#32) 16#32) 16#32) h3 hn x0 x1 x2 x3 x4 s.raw s.acts s.maxs s.invs E K _)
    iintro ⟨H1, H2, H3, H4, H5, H6, H8, H9, H10, H11, Hk⟩
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    iintro ⟨H1, H2, H3, H4, H5, H6, H8, H9, H10, H11⟩
    rw [dif_neg (h43 h3)]
    sl_step
    iapply Hk
    unfold St.next
    rw [if_pos h3]
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    iexact H11
  · rw [dif_neg h3, dif_pos (h34 h3)]
    refine BIBase.Entails.trans ?_ (drainTail_triple c i arg1 harg1 arg2 harg2 arg3 harg3 arg4 harg4 arg5 harg5 arg6 harg6 arg7 harg7 arg8 harg8 arg9 harg9 arg10 harg10 arg11 harg11 (Scalar.remsi (Scalar.addi (Scalar.subi (BitVec.ofNat 32 (i 0).val) 1#32) 16#32) 16#32) (h34 h3) hn x1 x3 x4 s.raw s.acts s.maxs s.invs E K _)
    iintro ⟨H1, H2, H3, H4, H5, H6, H8, H9, H10, H11, Hk⟩
    isplitl [H2]; · iexact H2
    isplitl [H4]; · iexact H4
    isplitl [H5]; · iexact H5
    isplitl [H6]; · iexact H6
    isplitl [H8]; · iexact H8
    isplitl [H9]; · iexact H9
    isplitl [H10]; · iexact H10
    isplitl [H11]; · iexact H11
    iintro ⟨H2, H4, H5, H6, H8, H9, H10, H11⟩
    sl_step
    iapply Hk
    unfold St.next
    rw [if_neg h3]
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    iexact H11

theorem stage2_triple (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (hn : k0_off1 i 0 < 16) (h34 : ¬ k0_cond3 i = 1#1 → k0_cond4 i = 1#1)
    (h43 : k0_cond3 i = 1#1 → ¬ k0_cond4 i = 1#1) (x0 : Vec F S512x12800 .fp8e4m3) (x1 : Vec F S512x128 .f32) (x2 : Vec F S12800x512 .fp8e4m3) (x3 x4 : Vec F S1x512 .f32) (y : Vec F S512x128 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y ∗ owns (c : Thread nD τ) arg8 fullShare s.raw ∗ owns (c : Thread nD τ) arg9 fullShare s.acts ∗ owns (c : Thread nD τ) arg10 fullShare s.maxs ∗ owns (c : Thread nD τ) arg11 fullShare s.invs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesOf s.acts (if k0_cond2 i = 1#1 then s.scaled else s).invs (blockOf i hn)) ∗ owns (c : Thread nD τ) arg7 fullShare (if k0_cond2 i = 1#1 then k0_pay5 s.maxs else y) ∗ owns (c : Thread nD τ) arg8 fullShare (((if k0_cond2 i = 1#1 then s.scaled else s).next (blockOf i hn) (k0_cond3 i = 1#1) x0 x1 x2 x3 x4).raw) ∗ owns (c : Thread nD τ) arg9 fullShare (((if k0_cond2 i = 1#1 then s.scaled else s).next (blockOf i hn) (k0_cond3 i = 1#1) x0 x1 x2 x3 x4).acts) ∗ owns (c : Thread nD τ) arg10 fullShare (((if k0_cond2 i = 1#1 then s.scaled else s).next (blockOf i hn) (k0_cond3 i = 1#1) x0 x1 x2 x3 x4).maxs) ∗ owns (c : Thread nD τ) arg11 fullShare (((if k0_cond2 i = 1#1 then s.scaled else s).next (blockOf i hn) (k0_cond3 i = 1#1) x0 x1 x2 x3 x4).invs)) -∗ K ⟨⟩))
      ⊢ wp frame (wpE (defs₀ (F := F)) Variants.none c none) E (stage2 i arg1 harg1 arg2 harg2 arg3 harg3 arg4 harg4 arg5 harg5 arg6 harg6 arg7 harg7 arg8 harg8 arg9 harg9 arg10 harg10 arg11 harg11 ⟨⟩) K := by
  unfold stage2
  by_cases h2 : k0_cond2 i = 1#1
  · rw [dif_pos h2, if_pos h2, if_pos h2]
    refine BIBase.Entails.trans ?_ (setScale_triple c arg7 harg7 arg10 harg10 arg11 harg11 s.maxs E K _)
    iintro ⟨H1, H2, H3, H4, H5, H6, H7, H8, H9, H10, H11, Hk⟩
    isplitl [H7]; · iexists _; iexact H7
    isplitl [H10]; · iexact H10
    isplitl [H11]; · iexists _; iexact H11
    iintro ⟨H7, H10, H11⟩
    iapply (stage3_triple c i arg1 harg1 arg2 harg2 arg3 harg3 arg4 harg4 arg5 harg5 arg6 harg6 arg7 harg7 arg8 harg8 arg9 harg9 arg10 harg10 arg11 harg11 hn h34 h43 x0 x1 x2 x3 x4 s.scaled E K)
    unfold St.scaled
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    iintro ⟨H1, H2, H3, H4, H5, H6, H8, H9, H10, H11⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [dif_neg h2, if_neg h2, if_neg h2]
    refine BIBase.Entails.trans ?_ (stage3_triple c i arg1 harg1 arg2 harg2 arg3 harg3 arg4 harg4 arg5 harg5 arg6 harg6 arg7 harg7 arg8 harg8 arg9 harg9 arg10 harg10 arg11 harg11 hn h34 h43 x0 x1 x2 x3 x4 s E K)
    iintro ⟨H1, H2, H3, H4, H5, H6, H7, H8, H9, H10, H11, Hk⟩
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    iintro ⟨H1, H2, H3, H4, H5, H6, H8, H9, H10, H11⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body at the first point, whatever the scratch holds. -/
theorem first_triple (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (h1 : Scalar.cmpi .ne (Scalar.extui (Scalar.cmpi .eq (BitVec.ofNat 32 (i 0).val) 0#32)) 0#32 = 1#1) (hn : k0_off1 i 0 < 16) (h34 : ¬ k0_cond3 i = 1#1 → k0_cond4 i = 1#1)
    (h43 : k0_cond3 i = 1#1 → ¬ k0_cond4 i = 1#1) (x0 : Vec F S512x12800 .fp8e4m3) (x1 : Vec F S512x128 .f32) (x2 : Vec F S12800x512 .fp8e4m3) (x3 x4 : Vec F S1x512 .f32) (y : Vec F S512x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesOf St.zero.acts (if k0_cond2 i = 1#1 then St.zero.scaled else St.zero).invs (blockOf i hn)) ∗ owns (c : Thread nD τ) arg7 fullShare (if k0_cond2 i = 1#1 then k0_pay5 St.zero.maxs else y) ∗ owns (c : Thread nD τ) arg8 fullShare (((if k0_cond2 i = 1#1 then St.zero.scaled else St.zero).next (blockOf i hn) (k0_cond3 i = 1#1) x0 x1 x2 x3 x4).raw) ∗ owns (c : Thread nD τ) arg9 fullShare (((if k0_cond2 i = 1#1 then St.zero.scaled else St.zero).next (blockOf i hn) (k0_cond3 i = 1#1) x0 x1 x2 x3 x4).acts) ∗ owns (c : Thread nD τ) arg10 fullShare (((if k0_cond2 i = 1#1 then St.zero.scaled else St.zero).next (blockOf i hn) (k0_cond3 i = 1#1) x0 x1 x2 x3 x4).maxs) ∗ owns (c : Thread nD τ) arg11 fullShare (((if k0_cond2 i = 1#1 then St.zero.scaled else St.zero).next (blockOf i hn) (k0_cond3 i = 1#1) x0 x1 x2 x3 x4).invs)) -∗ K ⟨⟩))
      ⊢ wp frame (wpE (defs₀ (F := F)) Variants.none c none) E (cc0_mm1_gelu_quant (F := F) i arg1 harg1 arg2 harg2 arg3 harg3 arg4 harg4 arg5 harg5 arg6 harg6 arg7 harg7 arg8 harg8 arg9 harg9 arg10 harg10 arg11 harg11) K := by
  rw [body_eq]
  unfold stage1
  rw [dif_pos h1]
  refine BIBase.Entails.trans ?_ (resetAll_triple c arg8 harg8 arg9 harg9 arg10 harg10 arg11 harg11 E K _)
  iintro ⟨H1, H2, H3, H4, H5, H6, H7, H8, H9, H10, H11, Hk⟩
  isplitl [H8]; · iexact H8
  isplitl [H9]; · iexact H9
  isplitl [H10]; · iexact H10
  isplitl [H11]; · iexact H11
  iintro ⟨H8, H9, H10, H11⟩
  iapply (stage2_triple c i arg1 harg1 arg2 harg2 arg3 harg3 arg4 harg4 arg5 harg5 arg6 harg6 arg7 harg7 arg8 harg8 arg9 harg9 arg10 harg10 arg11 harg11 hn h34 h43 x0 x1 x2 x3 x4 y St.zero E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · unfold St.zero; iexact H8
  isplitl [H9]; · unfold St.zero; iexact H9
  isplitl [H10]; · unfold St.zero; iexact H10
  isplitl [H11]; · unfold St.zero; iexact H11
  iexact Hk

/-- The body at any later point. -/
theorem later_triple (c : Dev nD) (i : grid0.Coords) (arg1 : Memref sig .tc .vmem S512x12800 .fp8e4m3) (harg1 : arg1.IsWhole) (arg2 : Memref sig .tc .vmem S512x128 .f32) (harg2 : arg2.IsWhole) (arg3 : Memref sig .tc .vmem S12800x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x512 .f32) (harg8 : arg8.IsWhole) (arg9 : Memref sig .tc .vmem S16x512x512 .f32) (harg9 : arg9.IsWhole) (arg10 : Memref sig .tc .vmem S512x128 .f32) (harg10 : arg10.IsWhole) (arg11 : Memref sig .tc .vmem S512x128 .f32) (harg11 : arg11.IsWhole) (h1 : ¬ Scalar.cmpi .ne (Scalar.extui (Scalar.cmpi .eq (BitVec.ofNat 32 (i 0).val) 0#32)) 0#32 = 1#1) (hn : k0_off1 i 0 < 16) (h34 : ¬ k0_cond3 i = 1#1 → k0_cond4 i = 1#1)
    (h43 : k0_cond3 i = 1#1 → ¬ k0_cond4 i = 1#1) (x0 : Vec F S512x12800 .fp8e4m3) (x1 : Vec F S512x128 .f32) (x2 : Vec F S12800x512 .fp8e4m3) (x3 x4 : Vec F S1x512 .f32) (y : Vec F S512x128 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y ∗ owns (c : Thread nD τ) arg8 fullShare s.raw ∗ owns (c : Thread nD τ) arg9 fullShare s.acts ∗ owns (c : Thread nD τ) arg10 fullShare s.maxs ∗ owns (c : Thread nD τ) arg11 fullShare s.invs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesOf s.acts (if k0_cond2 i = 1#1 then s.scaled else s).invs (blockOf i hn)) ∗ owns (c : Thread nD τ) arg7 fullShare (if k0_cond2 i = 1#1 then k0_pay5 s.maxs else y) ∗ owns (c : Thread nD τ) arg8 fullShare (((if k0_cond2 i = 1#1 then s.scaled else s).next (blockOf i hn) (k0_cond3 i = 1#1) x0 x1 x2 x3 x4).raw) ∗ owns (c : Thread nD τ) arg9 fullShare (((if k0_cond2 i = 1#1 then s.scaled else s).next (blockOf i hn) (k0_cond3 i = 1#1) x0 x1 x2 x3 x4).acts) ∗ owns (c : Thread nD τ) arg10 fullShare (((if k0_cond2 i = 1#1 then s.scaled else s).next (blockOf i hn) (k0_cond3 i = 1#1) x0 x1 x2 x3 x4).maxs) ∗ owns (c : Thread nD τ) arg11 fullShare (((if k0_cond2 i = 1#1 then s.scaled else s).next (blockOf i hn) (k0_cond3 i = 1#1) x0 x1 x2 x3 x4).invs)) -∗ K ⟨⟩))
      ⊢ wp frame (wpE (defs₀ (F := F)) Variants.none c none) E (cc0_mm1_gelu_quant (F := F) i arg1 harg1 arg2 harg2 arg3 harg3 arg4 harg4 arg5 harg5 arg6 harg6 arg7 harg7 arg8 harg8 arg9 harg9 arg10 harg10 arg11 harg11) K := by
  rw [body_eq]
  unfold stage1
  rw [dif_neg h1]
  exact stage2_triple c i arg1 harg1 arg2 harg2 arg3 harg3 arg4 harg4 arg5 harg5 arg6 harg6 arg7 harg7 arg8 harg8 arg9 harg9 arg10 harg10 arg11 harg11 hn h34 h43 x0 x1 x2 x3 x4 y s E K

end Cert.KernelIdeal.Hand

end
-- ==== Proof.Track.lean ====
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat RDat Cfg Window BodyObligation cellOf)

/-! ## The conditions of the body, and its memrefs -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 241 = 0 :=
  (fun t => by
    have ht : t.val < 241 := Nat.lt_of_lt_of_eq t.isLt N_0
    have e0 : (grid0.coords t 0).val = t.val / 1 % 241 := Pipeline.Grid.coords_val t 0 (by decide) rfl
    simp only [cond0_0, e0]
    word_cmp
   : ∀ t : Fin grid0.N, cond0_0 (grid0.coords t) ↔ t.val % 241 = 0)

/-- The condition of the body's `scf.if` 1 (`k0_h2`), from the grid coordinates (the skeleton's scalar
    chain substituted). -/
abbrev cond0_1 (i : grid0.Coords) : Prop := k0_cond2 i = 1#1
/-- It holds at the points ≡ 1 (mod 16) — decided over the grid. -/
theorem hcond0_1 : ∀ t : Fin cfg0.N, cond0_1 (grid0.coords t) ↔ t.val % 16 = 1 :=
  (by decide +kernel : ∀ t : Fin grid0.N, cond0_1 (grid0.coords t) ↔ t.val % 16 = 1)

/-- The condition of the body's `scf.if` 2 (`k0_h3`), from the grid coordinates (the skeleton's scalar
    chain substituted). -/
abbrev cond0_2 (i : grid0.Coords) : Prop := k0_cond3 i = 1#1
/-- It holds at the points before point 224 — decided over the grid. -/
theorem hcond0_2 : ∀ t : Fin cfg0.N, cond0_2 (grid0.coords t) ↔ t.val < 224 :=
  (by decide +kernel : ∀ t : Fin grid0.N, cond0_2 (grid0.coords t) ↔ t.val < 224)

/-- The condition of the body's `scf.if` 3 (`k0_h4`), from the grid coordinates (the skeleton's scalar
    chain substituted). -/
abbrev cond0_3 (i : grid0.Coords) : Prop := k0_cond4 i = 1#1
/-- It holds at the points from point 224 on — decided over the grid. -/
theorem hcond0_3 : ∀ t : Fin cfg0.N, cond0_3 (grid0.coords t) ↔ 224 ≤ t.val :=
  (by decide +kernel : ∀ t : Fin grid0.N, cond0_3 (grid0.coords t) ↔ 224 ≤ t.val)

/-- The slot of the block a point puts away. -/
theorem off_eq : ∀ t : Fin cfg0.N, k0_off1 (grid0.coords t) 0 = (t.val + 15) % 16 :=
  (by decide +kernel : ∀ t : Fin grid0.N, k0_off1 (grid0.coords t) 0 = (t.val + 15) % 16)

theorem off_lt (t : Fin cfg0.N) : k0_off1 (grid0.coords t) 0 < 16 := by
  rw [off_eq]; exact Nat.mod_lt _ (by decide)

abbrev ms0_0 (t : Fin cfg0.N) : Memref sig .tc .vmem S512x12800 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12800x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x512 .f32 := Memref.whole cc0_scratch0
abbrev scM0_1 : Memref sig .tc .vmem S16x512x512 .f32 := Memref.whole cc0_scratch1
abbrev scM0_2 : Memref sig .tc .vmem S512x128 .f32 := Memref.whole cc0_scratch2
abbrev scM0_3 : Memref sig .tc .vmem S512x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What a run of the pipeline says of the arguments: they end as they began. -/
theorem args_kept (m : (ℓ : Loc nD τ sig) → Buf (Elt F) ℓ) (ρ : Dev nD → PrngReg) (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

variable (m : (ℓ : Loc nD τ sig) → Buf (Elt F) ℓ) (ρ : Dev nD → PrngReg)

/-! ## The states of the run -/

/-- The scratch once the scales are taken, if point `t` takes them. -/
def scaleAt (t : Fin cfg0.N) (s : St F) : St F := if k0_cond2 (grid0.coords t) = 1#1 then s.scaled else s

/-- The scratch after point `t`, from the scratch before it. -/
def stepAt (c : Dev nD) (t : Fin cfg0.N) (s : St F) : St F :=
  (scaleAt t s).next (blockOf (grid0.coords t) (off_lt t)) (k0_cond3 (grid0.coords t) = 1#1) (iblk m c 0 t) (iblk m c 1 t) (iblk m c 2 t) (iblk m c 3 t) (iblk m c 4 t)

/-- The scratch before point `n`. -/
def stAt (c : Dev nD) : ℕ → St F
  | 0 => St.zero
  | n + 1 => if h : n < cfg0.N then stepAt m c ⟨n, h⟩ (stAt c n) else stAt c n

theorem stAt_succ (c : Dev nD) (t : Fin cfg0.N) : stAt m c (t.val + 1) = stepAt m c t (stAt m c t.val) := by
  show (if h : t.val < cfg0.N then stepAt m c ⟨t.val, h⟩ (stAt m c t.val) else stAt m c t.val) = _
  rw [dif_pos t.isLt]

/-- The codes point `t` leaves. -/
def codesAt (c : Dev nD) (t : Fin cfg0.N) : Vec F S512x512 .fp8e4m3 :=
  codesOf (stAt m c t.val).acts (scaleAt t (stAt m c t.val)).invs (blockOf (grid0.coords t) (off_lt t))

/-- The scales point `t` leaves, if it takes them. -/
def scalesAt (c : Dev nD) (t : Fin cfg0.N) : Vec F S512x128 .f32 := k0_pay5 (stAt m c t.val).maxs

/-- What holds between points: before the first, any scratch; then the scratch of the run's states. -/
def PhiS (c : Dev nD) : ℕ → sProp 𝕄
  | 0 => Pipeline.ΦA spec0 c
  | n + 1 => iprop((owns (c : Thread nD τ) scM0_0 fullShare (stAt m c (n + 1)).raw ∗ owns (c : Thread nD τ) scM0_1 fullShare (stAt m c (n + 1)).acts ∗ owns (c : Thread nD τ) scM0_2 fullShare (stAt m c (n + 1)).maxs ∗ owns (c : Thread nD τ) scM0_3 fullShare (stAt m c (n + 1)).invs) ∗ (∃ r, prngReg c r))

theorem PhiS_pos (c : Dev nD) (n : ℕ) (hz : n ≠ 0) : PhiS m c n = iprop((owns (c : Thread nD τ) scM0_0 fullShare (stAt m c n).raw ∗ owns (c : Thread nD τ) scM0_1 fullShare (stAt m c n).acts ∗ owns (c : Thread nD τ) scM0_2 fullShare (stAt m c n).maxs ∗ owns (c : Thread nD τ) scM0_3 fullShare (stAt m c n).invs) ∗ (∃ r, prngReg c r)) := by
  cases n with
  | zero => exact absurd rfl hz
  | succ n => rfl

/-- The run's data: inputs stay, a point leaves its codes, and its scales if it takes them — otherwise the scales as it found them. -/
def rdats (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => X = codesAt m c t
    | ⟨6, _⟩ => fun Y X => X = if k0_cond2 (grid0.coords t) = 1#1 then scalesAt m c t else Y
  Φ t := PhiS m c t.val
  q _ := fullShare
  owed _ := 0

theorem A_eq (c : Dev nD) (w : Fin cfg0.W) : (rdats m c).A w = V m c (Pipeline.arrRef spec0 w) := by
  dsimp only [rdats]

theorem after_scale (c : Dev nD) (t : Fin cfg0.N) (y : Vec F S512x128 .f32) :
    (rdats m c).after 6 t y (if k0_cond2 (grid0.coords t) = 1#1 then k0_pay5 (stAt m c t.val).maxs else y) := rfl

theorem finds_0 (c : Dev nD) (t : Fin cfg0.N) (Y) (h : (rdats m c).Finds 0 t Y) : Y = iblk m c 0 t := by
  obtain ⟨d, hd⟩ := (rdats m c).finds_in_eq_fetched 0 rfl (fun _ _ _ => rfl) (fun _ _ _ h => h) t Y h
  exact hd.trans (by unfold RDat.fetched RDat.blockOf iblk; rw [A_eq]; try rfl)

theorem finds_1 (c : Dev nD) (t : Fin cfg0.N) (Y) (h : (rdats m c).Finds 1 t Y) : Y = iblk m c 1 t := by
  obtain ⟨d, hd⟩ := (rdats m c).finds_in_eq_fetched 1 rfl (fun _ _ _ => rfl) (fun _ _ _ h => h) t Y h
  exact hd.trans (by unfold RDat.fetched RDat.blockOf iblk; rw [A_eq]; try rfl)

theorem finds_2 (c : Dev nD) (t : Fin cfg0.N) (Y) (h : (rdats m c).Finds 2 t Y) : Y = iblk m c 2 t := by
  obtain ⟨d, hd⟩ := (rdats m c).finds_in_eq_fetched 2 rfl (fun _ _ _ => rfl) (fun _ _ _ h => h) t Y h
  exact hd.trans (by unfold RDat.fetched RDat.blockOf iblk; rw [A_eq]; try rfl)

theorem finds_3 (c : Dev nD) (t : Fin cfg0.N) (Y) (h : (rdats m c).Finds 3 t Y) : Y = iblk m c 3 t := by
  obtain ⟨d, hd⟩ := (rdats m c).finds_in_eq_fetched 3 rfl (fun _ _ _ => rfl) (fun _ _ _ h => h) t Y h
  exact hd.trans (by unfold RDat.fetched RDat.blockOf iblk; rw [A_eq]; try rfl)

theorem finds_4 (c : Dev nD) (t : Fin cfg0.N) (Y) (h : (rdats m c).Finds 4 t Y) : Y = iblk m c 4 t := by
  obtain ⟨d, hd⟩ := (rdats m c).finds_in_eq_fetched 4 rfl (fun _ _ _ => rfl) (fun _ _ _ h => h) t Y h
  exact hd.trans (by unfold RDat.fetched RDat.blockOf iblk; rw [A_eq]; try rfl)

/-! ## The body at a point -/

set_option maxHeartbeats 4000000 in
theorem sound_body (c : Dev nD) (t : Fin cfg0.N) (Y : (w : Fin cfg0.W) → (cfg0.win w).block.Idx → Elt F (cfg0.win w).elt) (hY : ∀ w, (rdats m c).Finds w t (Y w)) :
    iprop((rdats m c).Φ t.castSucc ∗ (rdats m c).owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6))
      ⊢ wp frame (wpE (defs₀ (F := F)) Variants.none c none) Set.univ (bodyAt0 t) (fun _ =>
        iprop((rdats m c).Φ t.succ ∗ (rdats m c).owesAt () t.succ
          ∗ (∃ X, ⌜(rdats m c).after 0 t (Y 0) X⌝ ∗ owns (c : Thread nD τ) (ms0_0 t) fullShare X) ∗ (∃ X, ⌜(rdats m c).after 1 t (Y 1) X⌝ ∗ owns (c : Thread nD τ) (ms0_1 t) fullShare X) ∗ (∃ X, ⌜(rdats m c).after 2 t (Y 2) X⌝ ∗ owns (c : Thread nD τ) (ms0_2 t) fullShare X) ∗ (∃ X, ⌜(rdats m c).after 3 t (Y 3) X⌝ ∗ owns (c : Thread nD τ) (ms0_3 t) fullShare X) ∗ (∃ X, ⌜(rdats m c).after 4 t (Y 4) X⌝ ∗ owns (c : Thread nD τ) (ms0_4 t) fullShare X) ∗ (∃ X, ⌜(rdats m c).after 5 t (Y 5) X⌝ ∗ owns (c : Thread nD τ) (ms0_5 t) fullShare X) ∗ (∃ X, ⌜(rdats m c).after 6 t (Y 6) X⌝ ∗ owns (c : Thread nD τ) (ms0_6 t) fullShare X))) := by
  have h0 : iblk m c 0 t = Y 0 := (finds_0 m c t _ (hY 0)).symm
  have h1 : iblk m c 1 t = Y 1 := (finds_1 m c t _ (hY 1)).symm
  have h2 : iblk m c 2 t = Y 2 := (finds_2 m c t _ (hY 2)).symm
  have h3 : iblk m c 3 t = Y 3 := (finds_3 m c t _ (hY 3)).symm
  have h4 : iblk m c 4 t = Y 4 := (finds_4 m c t _ (hY 4)).symm
  rw [← h0, ← h1, ← h2, ← h3, ← h4]
  rw [show (rdats m c).owesAt () t.succ = (rdats m c).owesAt () t.castSucc from rfl]
  rw [show (rdats m c).Φ t.succ = PhiS m c (t.val + 1) from rfl, show (rdats m c).Φ t.castSucc = PhiS m c t.val from rfl, PhiS_pos m c (t.val + 1) (by omega), stAt_succ]
  unfold bodyAt0
  have hN : t.val < 241 := lt_of_lt_of_eq t.isLt (show cfg0.N = 241 from N_0)
  by_cases hz : t.val = 0
  · have hs : stAt m c t.val = St.zero := by rw [hz]; rfl
    rw [show PhiS m c t.val = Pipeline.ΦA spec0 c from by rw [hz]; rfl, PhiA0_eq, hs]
    iintro ⟨⟨⟨HS0, HS1, HS2, HS3⟩, Hg⟩, Ho, H0, H1, H2, H3, H4, H5, H6⟩
    iapply (first_triple c (grid0.coords t) _ _ _ _ _ _ _ _ _ _ _ _ _ _ _ _ _ _ _ _ _ _ ((hcond0_0 t).mpr (by omega)) (off_lt t) (fun h => (hcond0_3 t).mpr (Nat.le_of_not_lt fun h' => h ((hcond0_2 t).mpr h'))) (fun h h' => absurd ((hcond0_2 t).mp h) (Nat.not_lt.mpr ((hcond0_3 t).mp h')))
      (iblk m c 0 t) (iblk m c 1 t) (iblk m c 2 t) (iblk m c 3 t) (iblk m c 4 t) (Y 6)  Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · iexists _; isplitr; swap; · iexact H0
      ipureintro; exact rfl
    isplitl [H1]
    · iexists _; isplitr; swap; · iexact H1
      ipureintro; exact rfl
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H5]
    · iexists _; isplitr; swap; · iexact H5
      ipureintro; exact (by show _ = codesAt m c t; unfold codesAt scaleAt; rw [hs])
    iexists _; isplitr; swap; · iexact H6
    ipureintro; exact (by rw [← hs]; exact after_scale m c t (Y 6))
  · rw [PhiS_pos m c t.val hz]
    iintro ⟨⟨⟨HS0, HS1, HS2, HS3⟩, Hg⟩, Ho, H0, H1, H2, H3, H4, H5, H6⟩
    iapply (later_triple c (grid0.coords t) _ _ _ _ _ _ _ _ _ _ _ _ _ _ _ _ _ _ _ _ _ _ (fun h => hz (by have := (hcond0_0 t).mp h; omega)) (off_lt t) (fun h => (hcond0_3 t).mpr (Nat.le_of_not_lt fun h' => h ((hcond0_2 t).mpr h'))) (fun h h' => absurd ((hcond0_2 t).mp h) (Nat.not_lt.mpr ((hcond0_3 t).mp h')))
      (iblk m c 0 t) (iblk m c 1 t) (iblk m c 2 t) (iblk m c 3 t) (iblk m c 4 t) (Y 6) (stAt m c t.val) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · iexists _; isplitr; swap; · iexact H0
      ipureintro; exact rfl
    isplitl [H1]
    · iexists _; isplitr; swap; · iexact H1
      ipureintro; exact rfl
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H5]
    · iexists _; isplitr; swap; · iexact H5
      ipureintro; exact rfl
    iexists _; isplitr; swap; · iexact H6
    ipureintro; exact after_scale m c t (Y 6)

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdats (F := F) m c).BodyObligation (defs₀ (F := F)) Variants.none () Set.univ := fun t Y hY => by
  rw [bigSep_W0, bigSep_W0, defs₀_row]
  exact triple_restated (sound_body m c t Y hY) rfl .rfl fun _ => .rfl

theorem hout (c : Dev nD) : (rdats m c).Φ (Fin.last cfg0.N) ⊢ Pipeline.ΦA spec0 c := by
  rw [show (rdats m c).Φ (Fin.last cfg0.N) = PhiS m c (Fin.last cfg0.N).val from rfl, PhiS_pos m c _ (by rw [Fin.val_last]; have : cfg0.N = 241 := N_0; omega), PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- Every run of the program ends; it ends with every counter at zero, the inputs as they were, and the outputs at what the points left. -/
theorem run_track : θ_run defs (onTc (τ := τ) (main (F := F))) (s₀ m ρ) (fun r => RDat.FramePost (cfgs 0) (fun c => rdats m c) (V m) r ∧ r.2.sem = fun _ => 0) :=
  RDat.θ_run_frame_track (Q' := _) cfgs (0 : Fin 1) launch0 defs₀ Variants.none (fun c => rdats m c) m ρ main
    (hbody := body_obligation m) (hshare := fun c w => by unfold RDat.share; split <;> rfl)
    (howed := fun _ _ => rfl) (V := V m) (hmain := hmain m Variants.none) (hA := A_eq m) (hin := fun c => Idealize.SL.BI.Entails.refl _) (hout := hout m)

/-- The frame: the arguments end as they began, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (args_kept m ρ (fun c => rdats m c) (A_eq m) ((θ_run defs _ _).mono (fun _ h => h.1) (run_track m ρ)))
    ((θ_run defs _ _).mono (fun _ h => h.2) (run_track m ρ))

end Cert.KernelIdeal.Hand

end
-- ==== Proof.Transfer.lean ====
module

public import proofs.«01_k».proof.Kernel
public import proofs.«01_k».proof.Proof.Gen.Kernel
public import proofs.«01_k».proof.Proof.Track

@[expose] public section

noncomputable section

namespace Cert.Kernel.Hand

open Idealize.ShloMosaic Idealize.SL.Sem

attribute [local instance] Cert.KernelIdeal.Gen.facts Cert.Kernel.Gen.facts

variable {F : FTy → Type} [FloatOps F]

/-! The program as printed and the program the ideal pass printed are the same text, so a frame proved of
the one at every reading of the floats is the other's at the bits. -/

set_option maxHeartbeats 0 in
set_option maxRecDepth 65536 in
theorem same_main (d : Dev 1) : Cert.KernelIdeal.main (F := F) d = Cert.Kernel.main (F := F) d := rfl

set_option maxHeartbeats 0 in
set_option maxRecDepth 65536 in
theorem same_defs₀ : Cert.KernelIdeal.defs₀ (F := F) = Cert.Kernel.defs₀ (F := F) := by
  funext a b c
  match a, b, c with
  | .tc, ⟨0, _⟩, (t, s) => rfl
  | .tc, ⟨_ + 1, h⟩, _ => exact absurd h (Nat.not_lt.2 (Nat.le_add_left _ _))
  | .scScalar _, _, _ => rfl
  | .scVector _ _, _, _ => rfl

set_option maxHeartbeats 0 in
set_option maxRecDepth 65536 in
theorem same_defs : Cert.KernelIdeal.defs (F := F) = Cert.Kernel.defs (F := F) :=
  congrArg (Pipeline.defs (Cert.KernelIdeal.pcfgs (F := F))) same_defs₀

set_option maxHeartbeats 0 in
set_option maxRecDepth 65536 in
/-- The kernel runs, its arguments end unchanged and every counter ends at zero. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  have e : (onTc (τ := Cert.Kernel.τ) (Cert.KernelIdeal.main (F := F))) = onTc (τ := Cert.Kernel.τ) (Cert.Kernel.main (F := F)) :=
    congrArg (onTc (τ := Cert.Kernel.τ)) (funext same_main)
  rw [← e, ← same_defs]
  exact Cert.KernelIdeal.Hand.frame_any (F := F) m g

end Cert.Kernel.Hand

end
-- ==== Proof.States.lean ====
module

public import proofs.«01_k».proof.Proof.Track

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat RDat Cfg Window cellOf)

variable (m : (ℓ : Loc nD τ sig) → Buf (Elt F) ℓ) (c : Dev nD)

/-- Point `n` of the grid (the last one if there is none). -/
def pt (n : ℕ) : Fin cfg0.N := ⟨min n 240, lt_of_lt_of_eq (by omega : min n 240 < 241) N_0.symm⟩

theorem pt_val {n : ℕ} (h : n ≤ 240) : (pt n).val = n := by show min n 240 = n; omega

theorem pt_eq (t : Fin cfg0.N) : pt t.val = t := Fin.ext (pt_val (by have := lt_of_lt_of_eq t.isLt (show cfg0.N = 241 from N_0); omega))

/-- The sums of block `q` of the run. -/
def dotAt (q : ℕ) : Vec F S512x512 .f32 := dotOf (iblk m c 0 (pt q)) (iblk m c 2 (pt q))

/-- The activations of block `q`: they are taken one point later. -/
def actAt (q : ℕ) : Vec F S512x512 .f32 := actsOf (dotAt m c q) (iblk m c 1 (pt (q + 1))) (iblk m c 3 (pt (q + 1))) (iblk m c 4 (pt (q + 1)))

/-- The lane maxima of band `i` after its first `k` blocks. -/
def maxAt (i : ℕ) : ℕ → Vec F S512x128 .f32
  | 0 => k0_pay7
  | k + 1 => maxWith (maxAt i k) (actAt m c (16 * i + k))

theorem step_pt {n : ℕ} (h : n ≤ 240) : stAt m c (n + 1) = stepAt m c (pt n) (stAt m c n) := by
  have e := stAt_succ m c (pt n)
  rw [pt_val h] at e
  exact e

theorem scaleAt_raw (t : Fin cfg0.N) (s : St F) : (scaleAt t s).raw = s.raw := by unfold scaleAt St.scaled; split <;> rfl

theorem scaleAt_acts (t : Fin cfg0.N) (s : St F) : (scaleAt t s).acts = s.acts := by unfold scaleAt St.scaled; split <;> rfl

theorem scaleAt_of {t : Fin cfg0.N} (h : t.val % 16 = 1) (s : St F) : scaleAt t s = s.scaled := if_pos ((hcond0_1 t).mpr h)

theorem scaleAt_of_not {t : Fin cfg0.N} (h : t.val % 16 ≠ 1) (s : St F) : scaleAt t s = s := if_neg fun h' => h ((hcond0_1 t).mp h')

theorem slot_val {n : ℕ} (h : n ≤ 240) : (blockOf (grid0.coords (pt n)) (off_lt (pt n))).val = (n + 15) % 16 := by
  refine (off_eq (pt n)).trans ?_
  rw [pt_val h]

theorem raw_at {q : ℕ} (h : q < 224) : (stAt m c (q + 1)).raw = dotAt m c q := by
  rw [step_pt m c (by omega)]
  exact if_pos ((hcond0_2 (pt q)).mpr (by rw [pt_val (by omega)]; exact h))

theorem acts_step {n : ℕ} (h : n ≤ 240) : (stAt m c (n + 1)).acts = putBlock (stAt m c n).acts (blockOf (grid0.coords (pt n)) (off_lt (pt n)))
    (actsOf (stAt m c n).raw (iblk m c 1 (pt n)) (iblk m c 3 (pt n)) (iblk m c 4 (pt n))) := by
  rw [step_pt m c h]
  show putBlock (scaleAt (pt n) (stAt m c n)).acts _ (actsOf (scaleAt (pt n) (stAt m c n)).raw _ _ _) = _
  rw [scaleAt_acts, scaleAt_raw]

theorem maxs_step {n : ℕ} (h : n ≤ 240) : (stAt m c (n + 1)).maxs = maxWith (scaleAt (pt n) (stAt m c n)).maxs
    (actsOf (stAt m c n).raw (iblk m c 1 (pt n)) (iblk m c 3 (pt n)) (iblk m c 4 (pt n))) := by
  rw [step_pt m c h]
  show maxWith _ (actsOf (scaleAt (pt n) (stAt m c n)).raw _ _ _) = _
  rw [scaleAt_raw]

theorem invs_step {n : ℕ} (h : n ≤ 240) : (stAt m c (n + 1)).invs = (scaleAt (pt n) (stAt m c n)).invs := by
  rw [step_pt m c h]; rfl

/-- Block `q`'s activations stay in their slot for sixteen points. -/
theorem acts_at {q : ℕ} (h : q < 224) (y0 y1 : Fin 512) (s : Fin 16) (hs : s.val = q % 16) :
    ∀ k, k ≤ 15 → (stAt m c (q + 1 + k + 1)).acts (ix3 s y0 y1) = actAt m c q (ix2 y0 y1)
  | 0, _ => by
    rw [acts_step m c (by omega), raw_at m c h]
    exact if_pos (by rw [slot_val (by omega)]; show s.val = _; omega)
  | k + 1, hk => by
    rw [acts_step m c (by omega)]
    refine Eq.trans (if_neg ?_) (acts_at h y0 y1 s hs k (by omega))
    rw [slot_val (by omega)]; show ¬ s.val = _; omega

/-- A band's maxima grow block by block. -/
theorem maxs_at {i : ℕ} (h : i < 14) : ∀ k, k ≤ 15 → (stAt m c (16 * i + 1 + k + 1)).maxs = maxAt m c i (k + 1)
  | 0, _ => by
    rw [maxs_step m c (by omega), raw_at m c (by omega), scaleAt_of (by rw [pt_val (by omega)]; omega)]
    rfl
  | k + 1, hk => by
    rw [maxs_step m c (by omega), scaleAt_of_not (by rw [pt_val (by omega)]; omega), (show (stAt m c (16 * i + 1 + (k + 1))).maxs = _ from maxs_at h k (by omega)),
      show 16 * i + 1 + (k + 1) = 16 * i + (k + 1) + 1 by omega, raw_at m c (by omega)]
    rfl

/-- A band's inverse scales stay for the sixteen points that write its codes. -/
theorem invs_at {i : ℕ} (h : i < 14) : ∀ j, j ≤ 15 →
    (scaleAt (pt (16 * i + 17 + j)) (stAt m c (16 * i + 17 + j))).invs = k0_pay6 (maxAt m c i 16)
  | 0, _ => by
    rw [scaleAt_of (by rw [pt_val (by omega)]; omega)]
    exact congrArg k0_pay6 ((maxs_at m c h 15 (by omega)))
  | j + 1, hj => by
    rw [scaleAt_of_not (by rw [pt_val (by omega)]; omega), show 16 * i + 17 + (j + 1) = 16 * i + 17 + j + 1 by omega, invs_step m c (by omega)]
    exact invs_at h j (by omega)

/-- The codes of block `q`. -/
theorem codes_at {q : ℕ} (h : q < 224) (y : S512x512.Idx) :
    codesAt m c (pt (q + 17)) y = code1 (actAt m c q (ix2 (y 0) (y 1))) (k0_pay6 (maxAt m c (q / 16) 16) (ix2 (y 0) (lane (y 1)))) := by
  unfold codesAt codesOf
  rw [pt_val (by omega)]
  have e1 := acts_at m c h (y 0) (y 1) (blockOf (grid0.coords (pt (q + 17))) (off_lt (pt (q + 17)))) (by rw [slot_val (by omega)]; omega) 15 (by omega)
  have e2 := invs_at m c (i := q / 16) (by omega) (q % 16) (by omega)
  rw [show 16 * (q / 16) + 17 + q % 16 = q + 17 by omega] at e2
  exact congrArg₂ code1 e1 (congrFun e2 _)

/-- The scales of band `i`. -/
theorem scales_at {i : ℕ} (h : i < 14) : scalesAt m c (pt (16 * i + 17)) = k0_pay5 (maxAt m c i 16) := by
  unfold scalesAt
  rw [pt_val (by omega)]
  exact congrArg k0_pay5 (maxs_at m c h 15 (by omega))

/-! ## What the points leave to be written back -/

theorem flush5 : ∀ t : Fin cfg0.N, (cfg0.win 5).flush t = true → 17 ≤ t.val :=
  (by decide +kernel : ∀ t : Fin grid0.N, (cfg0.win 5).flush t = true → 17 ≤ t.val)

theorem flush6 : ∀ t : Fin cfg0.N, (cfg0.win 6).flush t = true → 32 ≤ t.val ∧ t.val % 16 = 0 :=
  (by decide +kernel : ∀ t : Fin grid0.N, (cfg0.win 6).flush t = true → 32 ≤ t.val ∧ t.val % 16 = 0)

theorem leaves5 (t : Fin cfg0.N) (X) (h : (rdats m c).Leaves 5 t X) : X = codesAt m c t := by
  obtain ⟨Y, -, hX⟩ := h
  exact hX

theorem leaves6_new (t : Fin cfg0.N) (ht : t.val % 16 = 1) (X) (h : (rdats m c).Leaves 6 t X) : X = scalesAt m c t := by
  obtain ⟨Y, -, hX⟩ := h
  exact Eq.trans hX (if_pos ((hcond0_1 t).mpr ht))

theorem leaves6_old (t u : Fin cfg0.N) (hu : t.val = u.val + 1) (ht : t.val % 16 ≠ 1) (X) (h : (rdats m c).Leaves 6 t X) : (rdats m c).Leaves 6 u X := by
  obtain ⟨Y, hY, hX⟩ := h
  have hXY : X = Y := Eq.trans hX (if_neg fun h' => ht ((hcond0_1 t).mp h'))
  subst hXY
  have hp : (⟨t.val - 1, Nat.lt_of_le_of_lt (Nat.sub_le _ _) t.isLt⟩ : Fin cfg0.N) = u := Fin.ext (by show t.val - 1 = u.val; omega)
  rcases ((rdats m c).finds_of_pos (w := 6) (t := t) rfl (by omega) X).mp hY with hf | hl
  · rw [hp] at hf
    have := flush6 _ hf
    omega
  · rw [hp] at hl
    exact hl

theorem leaves6 {i : ℕ} (hi : i < 14) (j : ℕ) (hj : j ≤ 15) (X) (h : (rdats m c).Leaves 6 (pt (16 * i + 17 + j)) X) : X = scalesAt m c (pt (16 * i + 17)) := by
  induction j with
  | zero => exact leaves6_new m c _ (by rw [pt_val (by omega)]; omega) X h
  | succ j ih =>
    exact ih (by omega) (leaves6_old m c _ (pt (16 * i + 17 + j)) (by rw [pt_val (by omega), pt_val (by omega)]; omega)
      (by rw [pt_val (by omega)]; omega) X h)

end Cert.KernelIdeal.Hand

end
-- ==== Proof.Arrays.lean ====
module

public import proofs.«01_k».proof.Proof.States
public import Idealize.ShloMosaic.Lib.Pipeline.ArrRel

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (c : Dev nD)

/-- Row `y` of band `i`, among all the rows. -/
def rowOf (i : Fin 14) (y : Fin 512) : Fin 7168 := ⟨512 * i.val + y.val, by omega⟩

/-- Column `y` of block `j`, among all the columns. -/
def colOf (j : Fin 16) (y : Fin 512) : Fin 8192 := ⟨512 * j.val + y.val, by omega⟩

/-! ## Which block each window shows at a point -/

theorem idx0 : ∀ t : Fin grid0.N, t.val < 224 → win0_0.index t = ![t.val / 16, 0] := by decide +kernel

theorem idx1 : ∀ t : Fin grid0.N, 1 ≤ t.val ∧ t.val ≤ 224 → win0_1.index t = ![(t.val - 1) / 16, 0] := by decide +kernel

theorem idx2 : ∀ t : Fin grid0.N, t.val < 224 → win0_2.index t = ![0, t.val % 16] := by decide +kernel

theorem idx3 : ∀ t : Fin grid0.N, 1 ≤ t.val ∧ t.val ≤ 224 → win0_3.index t = ![0, (t.val - 1) % 16] := by decide +kernel

theorem idx4 : ∀ t : Fin grid0.N, 1 ≤ t.val ∧ t.val ≤ 224 → win0_4.index t = ![0, (t.val - 1) % 16] := by decide +kernel

theorem idx5 : ∀ t : Fin grid0.N, 17 ≤ t.val → win0_5.index t = ![(t.val - 17) / 16, (t.val - 17) % 16] := by decide +kernel

theorem idx6 : ∀ t : Fin grid0.N, 17 ≤ t.val → win0_6.index t = ![(t.val - 17) / 16, 0] := by decide +kernel

/-- The row scales, repeated along the lanes before the call. -/
theorem V_main_v0 : V m c main_v0 = broadcastInDim S7168x128 ![0, 1] bcast_S7168x1_S7168x128_0_1 (m ((c : Thread nD τ).loc main_arg1)) := by
  unfold V hostOps0
  rw [StableHlo.after_cons, StableHlo.after_nil]
  exact StableHlo.unary_result ..

theorem iblk0_at (i : Fin 14) (j : Fin 16) (y : Fin 512) (k : Fin 12800) :
    iblk m c 0 (pt (16 * i.val + j.val)) (ix2 y k) = m ((c : Thread nD τ).loc main_arg0) (ix2 (rowOf i y) k) := by
  have e := idx0 (pt (16 * i.val + j.val)) (by rw [pt_val (by omega)]; omega)
  rw [pt_val (by omega)] at e
  rw [← V_main_arg0 m c]
  blk_simp [iblk]
  refine congrArg _ ?_
  blk_ext [e]
  · show (16 * i.val + j.val) / 16 * 512 + y.val = 512 * i.val + y.val
    omega

theorem iblk2_at (i : Fin 14) (j : Fin 16) (k : Fin 12800) (y : Fin 512) :
    iblk m c 2 (pt (16 * i.val + j.val)) (ix2 k y) = m ((c : Thread nD τ).loc main_arg2) (ix2 k (colOf j y)) := by
  have e := idx2 (pt (16 * i.val + j.val)) (by rw [pt_val (by omega)]; omega)
  rw [pt_val (by omega)] at e
  rw [← V_main_arg2 m c]
  blk_simp [iblk]
  refine congrArg _ ?_
  blk_ext [e]
  · show (16 * i.val + j.val) % 16 * 512 + y.val = 512 * j.val + y.val
    omega

theorem iblk1_at (i : Fin 14) (j : Fin 16) (y : Fin 512) (l : Fin 128) :
    iblk m c 1 (pt (16 * i.val + j.val + 1)) (ix2 y l) = m ((c : Thread nD τ).loc main_arg1) (ix2 (rowOf i y) 0) := by
  have e := idx1 (pt (16 * i.val + j.val + 1)) (by rw [pt_val (by omega)]; omega)
  rw [pt_val (by omega)] at e
  have e' : iblk m c 1 (pt (16 * i.val + j.val + 1)) (ix2 y l) = V m c main_v0 (ix2 (rowOf i y) l) := by
    blk_simp [iblk]
    refine congrArg _ ?_
    blk_ext [e]
    · show (16 * i.val + j.val + 1 - 1) / 16 * 512 + y.val = 512 * i.val + y.val
      omega
  rw [e', V_main_v0]
  exact broadcastInDim_apply _ _ _ _ (ix2 (rowOf i y) 0) fun a => by fin_cases a <;> rfl

theorem iblk3_at (i : Fin 14) (j : Fin 16) (y : Fin 512) :
    iblk m c 3 (pt (16 * i.val + j.val + 1)) (ix2 0 y) = m ((c : Thread nD τ).loc main_arg3) (ix2 0 (colOf j y)) := by
  have e := idx3 (pt (16 * i.val + j.val + 1)) (by rw [pt_val (by omega)]; omega)
  rw [pt_val (by omega)] at e
  rw [← V_main_arg3 m c]
  blk_simp [iblk]
  refine congrArg _ ?_
  blk_ext [e]
  · show (16 * i.val + j.val + 1 - 1) % 16 * 512 + y.val = 512 * j.val + y.val
    omega

theorem iblk4_at (i : Fin 14) (j : Fin 16) (y : Fin 512) :
    iblk m c 4 (pt (16 * i.val + j.val + 1)) (ix2 0 y) = m ((c : Thread nD τ).loc main_arg4) (ix2 0 (colOf j y)) := by
  have e := idx4 (pt (16 * i.val + j.val + 1)) (by rw [pt_val (by omega)]; omega)
  rw [pt_val (by omega)] at e
  rw [← V_main_arg4 m c]
  blk_simp [iblk]
  refine congrArg _ ?_
  blk_ext [e]
  · show (16 * i.val + j.val + 1 - 1) % 16 * 512 + y.val = 512 * j.val + y.val
    omega

end Cert.KernelIdeal.Hand

end
-- ==== Proof.Spec.lean ====
module

public import proofs.«01_k».proof.Proof.Blocks

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # The numbers that the call computes, from the arrays it is given

Everything here is over the extended reals, with one number for each row and column. -/

theorem neg_c6 : Ideal.ofBits .f32 0xBE221320#32 = -Ideal.ofBits .f32 0x3E221320#32 := by
  simp [Ideal.ofBits, Ideal.ieee]

theorem neg_c4 : Ideal.ofBits .f32 0xBD62E4C2#32 = -Ideal.ofBits .f32 0x3D62E4C2#32 := by
  simp [Ideal.ofBits, Ideal.ieee]

theorem ofBits_448 : Ideal.ofBits .f32 0x43E00000#32 = ((448 : ℝ) : EReal) := by
  simp [Ideal.ofBits, Ideal.ieee]
  rw [← EReal.coe_mul]; norm_num

theorem ofBits_one : Ideal.ofBits .f32 0x3F800000#32 = 1 := by
  simp [Ideal.ofBits, Ideal.ieee]
  rw [← EReal.coe_mul]; norm_num

/-- The activation as the plain formula has it, step by step. -/
def gelu2 (v : EReal) : EReal :=
  let u := max v (-v)
  let t := Ideal.div (Ideal.ofBits .f32 0x3F800000#32) (Ideal.ofBits .f32 0x3F800000#32 + Ideal.ofBits .f32 0x3E99999A#32 * u)
  let p := Ideal.ofBits .f32 0x3D132D2D#32 * t - Ideal.ofBits .f32 0x3E221320#32
  let p := p * t + Ideal.ofBits .f32 0x3E553424#32
  let p := p * t - Ideal.ofBits .f32 0x3D62E4C2#32
  let p := p * t + Ideal.ofBits .f32 0x3E049396#32
  let p := p * t + Ideal.ofBits .f32 0x3DCC0EBC#32
  let p := p * t + Ideal.ofBits .f32 0x3DF76521#32
  let p := p * t + Ideal.ofBits .f32 0x3DF4FEAE#32
  max v (Ideal.ofBits .f32 0x00000000#32) - u * (t * p * Ideal.exp2 (Ideal.ofBits .f32 0xBF38AA3B#32 * (v * v)))

theorem assoc3 (u t p e : EReal) : u * t * p * e = u * (t * p * e) := by rw [mul_assoc, mul_assoc, mul_assoc]

/-- The two orders of the activation's steps give the same number. -/
theorem gelu1_eq (v : EReal) : gelu1 (F := Ideal) v = gelu2 v := by
  unfold gelu2
  dsimp only
  rw [sub_eq_add_neg _ (Ideal.ofBits .f32 0x3E221320#32), ← neg_c6, sub_eq_add_neg _ (Ideal.ofBits .f32 0x3D62E4C2#32), ← neg_c4,
    mul_comm (Ideal.ofBits .f32 0xBF38AA3B#32) (v * v)]
  exact congrArg (fun x => max v (Ideal.ofBits .f32 0x00000000#32) - x) (assoc3 _ _ _ _)

section
variable (A : Shape.Idx ⟨2, ![7168, 12800]⟩ → EReal) (SA : Shape.Idx ⟨2, ![7168, 1]⟩ → EReal) (W : Shape.Idx ⟨2, ![12800, 8192]⟩ → EReal)
  (SW B : Shape.Idx ⟨2, ![1, 8192]⟩ → EReal)

/-- The linear layer: codes times codes, their two scales, and the bias. -/
def linAt (r : Fin 7168) (n : Fin 8192) : EReal := (∑ k : Fin 12800, A (ix2 r k) * W (ix2 k n)) * SA (ix2 r 0) * SW (ix2 0 n) + B (ix2 0 n)

/-- The activations. -/
def geluAt (r : Fin 7168) (n : Fin 8192) : EReal := gelu2 (linAt A SA W SW B r n)

/-- The largest absolute activation of a row. -/
def amaxAt (r : Fin 7168) : EReal := Finset.univ.sup fun n : Fin 8192 => max (geluAt A SA W SW B r n) (-geluAt A SA W SW B r n)

/-- A row's scale, from its largest absolute activation. -/
def scaleOf (x : EReal) : EReal := if 0 < x then Ideal.div x (Ideal.ofBits .f32 0x43E00000#32) else Ideal.ofBits .f32 0x3F800000#32

/-- The codes. -/
def codeAt (r : Fin 7168) (n : Fin 8192) : EReal :=
  min (Ideal.ofBits .f32 0x43E00000#32) (max (Ideal.ofBits .f32 0xC3E00000#32) (Ideal.div (geluAt A SA W SW B r n) (scaleOf (amaxAt A SA W SW B r))))

theorem abs_nonneg (x : EReal) : 0 ≤ max x (-x) := by
  rcases le_total 0 x with h | h
  · exact h.trans (le_max_left _ _)
  · exact (EReal.neg_nonneg.mpr h).trans (le_max_right _ _)

theorem scaleOf_ne (x : EReal) : scaleOf x ≠ 0 := by
  unfold scaleOf
  split
  · rename_i h
    rw [ofBits_448]
    unfold Ideal.div
    rw [if_neg (by norm_num)]
    exact (EReal.mul_pos h (by rw [← EReal.coe_inv]; exact_mod_cast (by norm_num : (0 : ℝ) < 448⁻¹))).ne'
  · rw [ofBits_one]; exact one_ne_zero

/-- Times the inverse of the scale is divided by the scale: the scale is never zero. -/
theorem mul_inv_scale (h x : EReal) : h * Ideal.div (Ideal.ofBits .f32 0x3F800000#32) (scaleOf x) = Ideal.div h (scaleOf x) := by
  unfold Ideal.div
  rw [if_neg (scaleOf_ne x), if_neg (scaleOf_ne x), ofBits_one, one_mul]
end

end Cert.KernelIdeal.Hand

end
-- ==== Proof.Rows.lean ====
module

public import proofs.«01_k».proof.Proof.Spec
public import Idealize.ShloMosaic.PureOps.Ideal.Laws
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # A row's scale, as both programs compute it -/

theorem ofBits_bot : Ideal.ofBits .f32 0xFF800000#32 = ⊥ := by simp [Ideal.ofBits, Ideal.ieee]

section
variable {M N : ℕ}

theorem lift_row (h : (⟨2, ![M, N]⟩ : Shape).Reduces [1] (⟨1, ![M]⟩ : Shape)) (r : Fin M) (k : Fin ((⟨2, ![M, N]⟩ : Shape).size 1)) :
    h.lift (ix1 r) k = ix2 r (⟨k.val, k.isLt⟩ : Fin N) := by
  funext c; apply Fin.ext
  fin_cases c <;> rfl

/-- The maximum along a row. -/
theorem rowMax_at (src : FVec Ideal ⟨2, ![M, N]⟩ .f32) (h : (⟨2, ![M, N]⟩ : Shape).Reduces [1] (⟨1, ![M]⟩ : Shape)) (hφ hacc) (r : Fin M) :
    multiReduction .maximumf [1] (⟨1, ![M]⟩ : Shape) src 0xFF800000#32 h hφ hacc (ix1 r) = Finset.univ.sup fun n : Fin N => (src (ix2 r n) : EReal) := by
  refine (Ideal.multiReduction_maximumf_single (φ := .f32) src _ h hφ hacc (ix1 r)).trans ?_
  rw [show (src ∘ h.lift (ix1 r)) = fun n => src (ix2 r n) from funext fun k => congrArg src (lift_row h r k)]
  show Finset.fold max (Ideal.ofBits .f32 0xFF800000#32) _ _ = _
  rw [ofBits_bot]
  rfl

/-- The scale of a row, from the maximum along it. -/
theorem rowScale_at (x : FVec Ideal ⟨1, ![M]⟩ .f32) (h : (⟨1, ![M]⟩ : Shape).ShapeCasts (⟨2, ![M, 1]⟩ : Shape)) (r : Fin M) :
    select (cmpf .ogt (shapeCast (⟨2, ![M, 1]⟩ : Shape) x h) (broadcast (⟨2, ![M, 1]⟩ : Shape) (Scalar.ofBits .f32 0x00000000#32 : Ideal .f32)))
      (divf (shapeCast (⟨2, ![M, 1]⟩ : Shape) x h) (broadcast (⟨2, ![M, 1]⟩ : Shape) (Scalar.ofBits .f32 0x43E00000#32 : Ideal .f32)))
      (broadcast (⟨2, ![M, 1]⟩ : Shape) (Scalar.ofBits .f32 0x3F800000#32 : Ideal .f32)) (ix2 r 0) = scaleOf (x (ix1 r)) := by
  have e : shapeCast (⟨2, ![M, 1]⟩ : Shape) x h (ix2 r 0) = x (ix1 r) :=
    shapeCast_apply x h (ix2 r 0) (ix1 r) (by rw [Shape.rowMajor_val_one, Shape.rowMajor_val_two]; show r.val = r.val * 1 + 0; omega)
  show (if Ideal.cmp .ogt (shapeCast (⟨2, ![M, 1]⟩ : Shape) x h (ix2 r 0)) (Ideal.ofBits .f32 0x00000000#32) = 1#1 then
    Ideal.div (shapeCast (⟨2, ![M, 1]⟩ : Shape) x h (ix2 r 0)) (Ideal.ofBits .f32 0x43E00000#32) else Ideal.ofBits .f32 0x3F800000#32) = _
  rw [e, Ideal.ofBits_zero_f32]
  unfold scaleOf Ideal.cmp
  by_cases hp : (0 : EReal) < x (ix1 r)
  · rw [if_pos hp, if_pos (by simp [hp])]
  · rw [if_neg hp, if_neg (by simp [hp])]

theorem repeat_at {L : ℕ} (x : FVec Ideal ⟨2, ![M, 1]⟩ .f32) (h : (⟨2, ![M, 1]⟩ : Shape).Broadcasts (⟨2, ![M, L]⟩ : Shape)) (r : Fin M) (l : Fin L) :
    broadcastTo (⟨2, ![M, L]⟩ : Shape) x h (ix2 r l) = x (ix2 r 0) :=
  broadcastTo_apply x h (ix2 r l) (ix2 r 0) fun a => by
    fin_cases a
    · show r.val = if M = 1 then 0 else r.val
      have := r.isLt
      split <;> omega
    · rfl

theorem repeat_row {L : ℕ} (x : FVec Ideal ⟨2, ![1, L]⟩ .f32) (h : (⟨2, ![1, L]⟩ : Shape).Broadcasts (⟨2, ![M, L]⟩ : Shape)) (r : Fin M) (l : Fin L) :
    broadcastTo (⟨2, ![M, L]⟩ : Shape) x h (ix2 r l) = x (ix2 0 l) :=
  broadcastTo_apply x h (ix2 r l) (ix2 0 l) fun a => by
    fin_cases a
    · rfl
    · show l.val = if L = 1 then 0 else l.val
      have := l.isLt
      split <;> omega
end

end Cert.KernelIdeal.Hand

end
-- ==== Proof.KValue.lean ====
module

public import proofs.«01_k».proof.Proof.Arrays
public import proofs.«01_k».proof.Proof.Rows
public import Idealize.ShloMosaic.Lib.MatmulPlain

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # What the kernel's values are, over the extended reals -/

open Idealize.ShloMosaic.Pipeline (Dat RDat Cfg Window cellOf)

variable (m : (ℓ : Loc nD τ sig) → Buf (Elt Ideal) ℓ) (c : Dev nD)

/-- The activation of a row and a column, from the arguments. -/
def geluHere (r : Fin 7168) (n : Fin 8192) : EReal := geluAt (m ((c : Thread nD τ).loc main_arg0)) (m ((c : Thread nD τ).loc main_arg1)) (m ((c : Thread nD τ).loc main_arg2)) (m ((c : Thread nD τ).loc main_arg3)) (m ((c : Thread nD τ).loc main_arg4)) r n

/-- The largest absolute activation of a row, from the arguments. -/
def amaxHere (r : Fin 7168) : EReal := amaxAt (m ((c : Thread nD τ).loc main_arg0)) (m ((c : Thread nD τ).loc main_arg1)) (m ((c : Thread nD τ).loc main_arg2)) (m ((c : Thread nD τ).loc main_arg3)) (m ((c : Thread nD τ).loc main_arg4)) r

/-- One element of the product of two arrays of codes. -/
def sumAt (A : Shape.Idx ⟨2, ![7168, 12800]⟩ → EReal) (W : Shape.Idx ⟨2, ![12800, 8192]⟩ → EReal) (r : Fin 7168) (n : Fin 8192) : EReal :=
  ∑ k : Fin 12800, A (ix2 r k) * W (ix2 k n)

theorem dot_at (i : Fin 14) (j : Fin 16) (y0 y1 : Fin 512) : dotAt m c (16 * i.val + j.val) (ix2 y0 y1)
    = sumAt (m ((c : Thread nD τ).loc main_arg0)) (m ((c : Thread nD τ).loc main_arg2)) (rowOf i y0) (colOf j y1) := by
  unfold dotAt dotOf k0_pay496
  refine (Ideal.matmul_plain_apply (φ₁ := .fp8e4m3) (φ₂ := .fp8e4m3) none _ _ _ y0 y1).trans ?_
  refine (congrArg₂ (fun a b : EReal => a + b) Ideal.ofBits_zero_f32 (Finset.sum_congr rfl fun k _ => ?_)).trans (zero_add _)
  exact congrArg₂ (fun a b : EReal => a * b) (iblk0_at m c i j y0 k) (iblk2_at m c i j k y1)

theorem act_at (i : Fin 14) (j : Fin 16) (y0 y1 : Fin 512) :
    actAt m c (16 * i.val + j.val) (ix2 y0 y1) = geluHere m c (rowOf i y0) (colOf j y1) := by
  unfold actAt actsOf
  refine (gelu1_eq _).trans (congrArg gelu2 ?_)
  refine congrArg₂ (fun a b : EReal => a + b) (congrArg₂ (fun a b : EReal => a * b) (congrArg₂ (fun a b : EReal => a * b) ?_ ?_) ?_) ?_
  · exact dot_at m c i j y0 y1
  · exact iblk1_at m c i j y0 (lane y1)
  · exact iblk3_at m c i j y1
  · exact iblk4_at m c i j y1

/-- The absolute value. -/
def absOf (x : EReal) : EReal := max x (-x)

theorem max_le_iff4 (a : EReal) (b : Fin 4 → EReal) (B : EReal) : max (max (max (max a (b 0)) (b 1)) (b 2)) (b 3) ≤ B ↔ a ≤ B ∧ ∀ g, b g ≤ B := by
  rw [max_le_iff, max_le_iff, max_le_iff, max_le_iff]
  constructor
  · rintro ⟨⟨⟨⟨h, h0⟩, h1⟩, h2⟩, h3⟩
    exact ⟨h, fun g => by fin_cases g <;> assumption⟩
  · rintro ⟨h, hb⟩
    exact ⟨⟨⟨⟨h, hb 0⟩, hb 1⟩, hb 2⟩, hb 3⟩

theorem lanes_zero (z : S512x128.Idx) : k0_pay7 (F := Ideal) z = (0 : EReal) := by
  unfold k0_pay7
  rw [shapeCast_self]
  exact Ideal.ofBits_zero_f32

/-- A lane's maximum is at most `B` when zero is and every absolute activation of that lane that has come in is. -/
theorem lane_le (i : Fin 14) (y : Fin 512) (l : Fin 128) (B : EReal) : ∀ k, k ≤ 16 →
    ((maxAt m c i.val k (ix2 y l) : EReal) ≤ B ↔ 0 ≤ B ∧ ∀ j : Fin 16, j.val < k → ∀ g, absOf (geluHere m c (rowOf i y) (colOf j (col g l))) ≤ B)
  | 0, _ => by
    have e : maxAt m c i.val 0 (ix2 y l) = (0 : EReal) := lanes_zero (ix2 y l)
    rw [e]
    exact ⟨fun h => ⟨h, fun j hj => absurd hj (Nat.not_lt_zero _)⟩, fun h => h.1⟩
  | k + 1, hk => by
    have e : maxAt m c i.val (k + 1) (ix2 y l) = max (max (max (max (maxAt m c i.val k (ix2 y l) : EReal)
        (absOf (actAt m c (16 * i.val + k) (ix2 y (col 0 l))))) (absOf (actAt m c (16 * i.val + k) (ix2 y (col 1 l)))))
        (absOf (actAt m c (16 * i.val + k) (ix2 y (col 2 l))))) (absOf (actAt m c (16 * i.val + k) (ix2 y (col 3 l)))) := rfl
    rw [e, max_le_iff4 _ (fun g => absOf (actAt m c (16 * i.val + k) (ix2 y (col g l)))), lane_le i y l B k (by omega)]
    have ea : ∀ g, actAt m c (16 * i.val + k) (ix2 y (col g l)) = geluHere m c (rowOf i y) (colOf ⟨k, by omega⟩ (col g l)) :=
      fun g => act_at m c i ⟨k, by omega⟩ y (col g l)
    constructor
    · rintro ⟨⟨h0, h⟩, hg⟩
      refine ⟨h0, fun j hj g => ?_⟩
      rcases Nat.lt_succ_iff_lt_or_eq.mp hj with h' | h'
      · exact h j h' g
      · have hj' : j = ⟨k, by omega⟩ := Fin.ext h'
        rw [hj', ← ea g]
        exact hg g
    · rintro ⟨h0, h⟩
      exact ⟨⟨h0, fun j hj g => h j (by omega) g⟩, fun g => (congrArg absOf (ea g)).trans_le (h ⟨k, by omega⟩ (Nat.lt_succ_self k) g)⟩

theorem col_cover (n : Fin 8192) : ∃ (j : Fin 16) (g : Fin 4) (l : Fin 128), n = colOf j (col g l) :=
  ⟨⟨n.val / 512, by omega⟩, ⟨n.val % 512 / 128, by omega⟩, ⟨n.val % 128, by omega⟩, Fin.ext (by
    show n.val = 512 * (n.val / 512) + (128 * (n.val % 512 / 128) + n.val % 128); omega)⟩

/-- The lanes' maxima of a row, taken together, are the largest absolute activation of the row. -/
theorem row_amax (i : Fin 14) (y : Fin 512) : (Finset.univ.sup fun l : Fin 128 => (maxAt m c i.val 16 (ix2 y l) : EReal)) = amaxHere m c (rowOf i y) := by
  refine eq_of_forall_ge_iff fun B => ?_
  unfold amaxHere amaxAt
  rw [Finset.sup_le_iff, Finset.sup_le_iff]
  constructor
  · intro h n _
    obtain ⟨j, g, l, rfl⟩ := col_cover n
    exact ((lane_le m c i y l B 16 le_rfl).mp (h l (Finset.mem_univ _))).2 j j.isLt g
  · intro h l _
    refine (lane_le m c i y l B 16 le_rfl).mpr ⟨?_, fun j _ g => h _ (Finset.mem_univ _)⟩
    exact (abs_nonneg _).trans (h 0 (Finset.mem_univ _))

/-- A band's scales. -/
theorem scale_at (i : Fin 14) (y : Fin 512) (l : Fin 128) : k0_pay5 (maxAt m c i.val 16) (ix2 y l) = scaleOf (amaxHere m c (rowOf i y)) := by
  rw [← row_amax]
  generalize maxAt m c i.val 16 = v
  unfold k0_pay5
  refine (repeat_at _ broadcasts_S512x1_S512x128 y l).trans ?_
  rw [shapeCast_self]
  exact (rowScale_at _ shapeCasts_S512_S512x1 y).trans (congrArg scaleOf (rowMax_at _ reduces_S512x128_S512 _ _ y))

theorem inv_of (w : FVec Ideal S512x128 .f32) (z : S512x128.Idx) :
    divf (broadcast S512x128 (Scalar.ofBits .f32 0x3F800000#32 : Ideal .f32)) w z = Ideal.div (Ideal.ofBits .f32 0x3F800000#32) (w z) := rfl

theorem inv_at (i : Fin 14) (y : Fin 512) (l : Fin 128) :
    k0_pay6 (maxAt m c i.val 16) (ix2 y l) = Ideal.div (Ideal.ofBits .f32 0x3F800000#32) (scaleOf (amaxHere m c (rowOf i y))) := by
  rw [← scale_at m c i y l]
  generalize maxAt m c i.val 16 = v
  unfold k0_pay6
  rw [shapeCast_self]
  exact inv_of (k0_pay5 v) (ix2 y l)

theorem clip_at (h s : Ideal .f32) : code1 h s
      = min (Ideal.ofBits .f32 0x43E00000#32) (max (Ideal.ofBits .f32 0xC3E00000#32) ((h : EReal) * (s : EReal))) := by
  unfold code1
  rw [Ideal.truncf_def, Ideal.minimumf_def, Ideal.maximumf_def, Ideal.mulf_def]
  rfl

/-- A block's codes. -/
theorem code_at (i : Fin 14) (j : Fin 16) (y0 y1 : Fin 512) : codesAt m c (pt (16 * i.val + j.val + 17)) (ix2 y0 y1)
    = codeAt (m ((c : Thread nD τ).loc main_arg0)) (m ((c : Thread nD τ).loc main_arg1)) (m ((c : Thread nD τ).loc main_arg2)) (m ((c : Thread nD τ).loc main_arg3)) (m ((c : Thread nD τ).loc main_arg4)) (rowOf i y0) (colOf j y1) := by
  have hq : (16 * i.val + j.val) / 16 = i.val := by omega
  refine (codes_at m c (by omega) (ix2 y0 y1)).trans ((clip_at _ _).trans ?_)
  rw [hq]
  have e := (congrArg₂ (fun a b : EReal => a * b) (act_at m c i j y0 y1) (inv_at m c i y0 (lane y1))).trans (mul_inv_scale _ _)
  exact congrArg (fun x : EReal => min (Ideal.ofBits .f32 0x43E00000#32) (max (Ideal.ofBits .f32 0xC3E00000#32) x)) e

end Cert.KernelIdeal.Hand

end
-- ==== Proof.KRun.lean ====
module

public import proofs.«01_k».proof.Proof.KValue

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # What the kernel ends with -/

open Idealize.ShloMosaic.Pipeline (Dat RDat Cfg Window cellOf)

variable (m : (ℓ : Loc nD τ sig) → Buf (Elt Ideal) ℓ) (ρ : Dev nD → PrngReg) (c : Dev nD)

theorem rebuild {M N : ℕ} (y : Shape.Idx ⟨2, ![M, N]⟩) : ix2 (y 0) (y 1) = y := by funext a; fin_cases a <;> rfl

/-- Where block `t - 17` of the codes lies in the whole array. -/
theorem emb5 (t : Fin cfg0.N) (i : Fin 14) (j : Fin 16) (ht : t.val = 16 * i.val + j.val + 17) (y : S512x512.Idx) :
    ((cfg0.win 5).blk t).view.emb y = ix2 (rowOf i (y 0)) (colOf j (y 1)) := by
  have e := idx5 t (by omega)
  rw [ht] at e
  blk_ext [e]
  · show (16 * i.val + j.val + 17 - 17) / 16 * 512 + (y 0).val = 512 * i.val + (y 0).val
    omega
  · show (16 * i.val + j.val + 17 - 17) % 16 * 512 + (y 1).val = 512 * j.val + (y 1).val
    omega

/-- Where band `i` of the scales lies in the whole array. -/
theorem emb6 (t : Fin cfg0.N) (i : Fin 14) (ht : t.val = 16 * i.val + 32) (y : S512x128.Idx) :
    ((cfg0.win 6).blk t).view.emb y = ix2 (rowOf i (y 0)) (y 1) := by
  have e := idx6 t (by omega)
  rw [ht] at e
  blk_ext [e]
  · show (16 * i.val + 32 - 17) / 16 * 512 + (y 0).val = 512 * i.val + (y 0).val
    omega

section
variable {after : (w' : Fin cfg0.W) → Fin cfg0.N → (cfg0.win w').block.Idx → Elt Ideal (cfg0.win w').elt}
  (hL : ∀ (w : Fin cfg0.W) (u : Fin cfg0.N), (cfg0.win w).flush u = true → (rdats m c).Leaves w u (after w u))
include hL

theorem arr5 : ((rdats m c).withAfter after).arrAt 5 cfg0.N = fun y => codeAt (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine ((rdats m c).withAfter after).arrAt_eq_of_covers 5 _ (by decide +kernel) fun t hf y => ?_
  have h17 := flush5 t hf
  have hlt := lt_of_lt_of_eq t.isLt (show cfg0.N = 241 from N_0)
  obtain ⟨i, j, ht⟩ : ∃ (i : Fin 14) (j : Fin 16), t.val = 16 * i.val + j.val + 17 :=
    ⟨⟨(t.val - 17) / 16, by omega⟩, ⟨(t.val - 17) % 16, by omega⟩, by show t.val = 16 * ((t.val - 17) / 16) + (t.val - 17) % 16 + 17; omega⟩
  have hv := leaves5 m c t _ (hL 5 t hf)
  have hp : t = pt (16 * i.val + j.val + 17) := by rw [← ht, pt_eq]
  have hc : codesAt m c t y = codeAt (m ((c : Thread nD τ).loc main_arg0)) (m ((c : Thread nD τ).loc main_arg1)) (m ((c : Thread nD τ).loc main_arg2)) (m ((c : Thread nD τ).loc main_arg3)) (m ((c : Thread nD τ).loc main_arg4)) (rowOf i (y 0)) (colOf j (y 1)) := by
    rw [hp]
    exact (congrArg _ (rebuild y).symm).trans (code_at m c i j (y 0) (y 1))
  refine Eq.trans ?_ (congrArg (fun y : S7168x8192.Idx => codeAt (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) (emb5 t i j ht y)).symm
  refine Eq.trans ?_ hc
  rw [RDat.withAfter_after, hv]
  rfl

theorem arr6 : ((rdats m c).withAfter after).arrAt 6 cfg0.N = fun y => scaleOf (amaxAt (m ((c : Thread nD τ).loc main_arg0)) (m ((c : Thread nD τ).loc main_arg1)) (m ((c : Thread nD τ).loc main_arg2)) (m ((c : Thread nD τ).loc main_arg3)) (m ((c : Thread nD τ).loc main_arg4)) (y 0)) := by
  refine ((rdats m c).withAfter after).arrAt_eq_of_covers 6 _ (by decide +kernel) fun t hf y => ?_
  have h32 := flush6 t hf
  have hlt := lt_of_lt_of_eq t.isLt (show cfg0.N = 241 from N_0)
  obtain ⟨i, ht⟩ : ∃ (i : Fin 14), t.val = 16 * i.val + 32 := ⟨⟨(t.val - 32) / 16, by omega⟩, by show t.val = 16 * ((t.val - 32) / 16) + 32; omega⟩
  have hp : t = pt (16 * i.val + 17 + 15) := by rw [show 16 * i.val + 17 + 15 = t.val by omega, pt_eq]
  have hv : after 6 t = scalesAt m c (pt (16 * i.val + 17)) := by
    refine leaves6 m c i.isLt 15 le_rfl _ ?_
    rw [← hp]
    exact hL 6 t hf
  have hc : scalesAt m c (pt (16 * i.val + 17)) y = scaleOf (amaxAt (m ((c : Thread nD τ).loc main_arg0)) (m ((c : Thread nD τ).loc main_arg1)) (m ((c : Thread nD τ).loc main_arg2)) (m ((c : Thread nD τ).loc main_arg3)) (m ((c : Thread nD τ).loc main_arg4)) (rowOf i (y 0))) := by
    rw [scales_at m c i.isLt]
    exact (congrArg _ (rebuild y).symm).trans (scale_at m c i (y 0) (y 1))
  refine Eq.trans ?_ (congrArg (fun y : S7168x128.Idx => scaleOf (amaxAt (m ((c : Thread nD τ).loc main_arg0)) (m ((c : Thread nD τ).loc main_arg1)) (m ((c : Thread nD τ).loc main_arg2)) (m ((c : Thread nD τ).loc main_arg3)) (m ((c : Thread nD τ).loc main_arg4)) (y 0))) (emb6 t i ht y)).symm
  refine Eq.trans ?_ hc
  rw [RDat.withAfter_after, hv]
  generalize scalesAt m c (pt (16 * i.val + 17)) = X
  rfl
end

theorem values_of (r : PUnit × MemSt nD τ sig (Elt Ideal)) (h : RDat.FramePost (cfgs 0) (fun c => rdats m c) (V m) r) :
    r.2.mem ((c.tc : Thread nD τ).loc main_v1_0) = (fun y => codeAt (m ((c : Thread nD τ).loc main_arg0)) (m ((c : Thread nD τ).loc main_arg1)) (m ((c : Thread nD τ).loc main_arg2)) (m ((c : Thread nD τ).loc main_arg3)) (m ((c : Thread nD τ).loc main_arg4)) (y 0) (y 1))
    ∧ r.2.mem ((c.tc : Thread nD τ).loc main_v1_1) = (fun y => scaleOf (amaxAt (m ((c : Thread nD τ).loc main_arg0)) (m ((c : Thread nD τ).loc main_arg1)) (m ((c : Thread nD τ).loc main_arg2)) (m ((c : Thread nD τ).loc main_arg3)) (m ((c : Thread nD τ).loc main_arg4)) (y 0))) := by
  obtain ⟨after, hL, hA⟩ := RDat.FramePost.exists_exact h c
  exact ⟨(hA 5).trans (arr5 m c hL), (hA 6).trans (arr6 m c hL)⟩

/-- The kernel runs, and ends with these codes and scales. -/
theorem run_values : θ_run (defs (F := Ideal)) (onTc (τ := τ) (main (F := Ideal))) ⟨m, fun _ => 0, ρ⟩ (fun r => ∀ c : Dev nD,
    r.2.mem ((c.tc : Thread nD τ).loc main_v1_0) = (fun y => codeAt (m ((c : Thread nD τ).loc main_arg0)) (m ((c : Thread nD τ).loc main_arg1)) (m ((c : Thread nD τ).loc main_arg2)) (m ((c : Thread nD τ).loc main_arg3)) (m ((c : Thread nD τ).loc main_arg4)) (y 0) (y 1))
    ∧ r.2.mem ((c.tc : Thread nD τ).loc main_v1_1) = (fun y => scaleOf (amaxAt (m ((c : Thread nD τ).loc main_arg0)) (m ((c : Thread nD τ).loc main_arg1)) (m ((c : Thread nD τ).loc main_arg2)) (m ((c : Thread nD τ).loc main_arg3)) (m ((c : Thread nD τ).loc main_arg4)) (y 0)))) :=
  (θ_run (defs (F := Ideal)) (onTc (τ := τ) (main (F := Ideal))) ⟨m, fun _ => 0, ρ⟩).mono (fun r h c => values_of m c r h.1) (run_track m ρ)

end Cert.KernelIdeal.Hand

end
-- ==== Proof.RefValue.lean ====
module

public import proofs.«01_k».proof.Proof.Gen.ReferenceIdeal
public import proofs.«01_k».proof.Proof.Gen.ReferenceIdeal.Frame
public import proofs.«01_k».proof.Proof.Rows
public import Idealize.ShloMosaic.Lib.MatmulPlain
public import Idealize.ShloMosaic.Lib.Pipeline.ValueKit.Geometry

@[expose] public section

noncomputable section

namespace Cert.ReferenceIdeal.Hand

open Cert.ReferenceIdeal.Gen Cert.KernelIdeal.Hand Idealize.ShloMosaic Idealize.SL.Sem
open Idealize.ShloMosaic.View (canon_unit_zero ld_unit_zero)
open Idealize.ShloMosaic.TcCoe Idealize.ShloMosaic.ValueIdx

attribute [local instance] Cert.ReferenceIdeal.Gen.facts

/-! # What the reference computes -/

section
variable (A : Vec Ideal S7168x12800 .fp8e4m3) (SA : Vec Ideal S7168x1 .f32) (W : Vec Ideal S12800x8192 .fp8e4m3) (SW B : Vec Ideal S1x8192 .f32)

theorem lin_at (r : Fin 7168) (n : Fin 8192) : k0_pay5 (F := Ideal) A W SA SW B (ix2 r n) = linAt A SA W SW B r n := by
  have e1 : matmul (φ₁ := .fp8e4m3) (φ₂ := .fp8e4m3) dot_S7168x12800_S12800x8192_S7168x8192_1_0_0_1_n_n none A W (constant (F := Ideal) S7168x8192 .f32 0x00000000#32) (ix2 r n)
      = ∑ k : Fin 12800, (A (ix2 r k) * W (ix2 k n) : EReal) := by
    refine (Ideal.matmul_plain_apply none A W _ r n).trans ?_
    show Ideal.ofBits .f32 0x00000000#32 + _ = _
    rw [Ideal.ofBits_zero_f32, zero_add]
  have e2 := repeat_at SA broadcasts_S7168x1_S7168x8192 r n
  have e3 := repeat_row SW broadcasts_S1x8192_S7168x8192 r n
  have e4 := repeat_row B broadcasts_S1x8192_S7168x8192 r n
  unfold linAt
  rw [← e1, ← e2, ← e3, ← e4]
  rfl

theorem eta2 {M N : ℕ} (y : Shape.Idx ⟨2, ![M, N]⟩) : ix2 (y 0) (y 1) = y := by funext a; fin_cases a <;> rfl

set_option maxRecDepth 65536 in
/-- The four values that the reference's formula for the activation starts from give the activation. -/
theorem act_at (y : S7168x8192.Idx) : k0_pay1 (F := Ideal) (k0_pay5 A W SA SW B) (k0_pay6 A W SA SW B) (k0_pay7 A W SA SW B) (k0_pay8 A W SA SW B) y
    = gelu2 (k0_pay5 (F := Ideal) A W SA SW B y) := by
  rfl

theorem act_row (r : Fin 7168) (n : Fin 8192) :
    k0_pay1 (F := Ideal) (k0_pay5 A W SA SW B) (k0_pay6 A W SA SW B) (k0_pay7 A W SA SW B) (k0_pay8 A W SA SW B) (ix2 r n) = geluAt A SA W SW B r n :=
  (act_at A SA W SW B _).trans (congrArg gelu2 (lin_at A SA W SW B r n))

theorem scale_row (r : Fin 7168) :
    k0_pay2 (F := Ideal) (k0_pay5 A W SA SW B) (k0_pay6 A W SA SW B) (k0_pay7 A W SA SW B) (k0_pay8 A W SA SW B) (ix2 r 0)
      = scaleOf (amaxAt A SA W SW B r) := by
  unfold k0_pay2
  refine (rowScale_at _ shapeCasts_S7168_S7168x1 r).trans (congrArg scaleOf ?_)
  refine (rowMax_at _ reduces_S7168x8192_S7168 _ _ r).trans ?_
  refine congrArg (Finset.sup Finset.univ) (funext fun n => ?_)
  exact congrArg (fun x : EReal => max x (-x)) (act_row A SA W SW B r n)

theorem clip_at (h s : Ideal .f32) : FloatOps.truncf .fp8e4m3 bitsLt_fp8e4m3_f32 (FloatOps.minimumf (FloatOps.ofBits .f32 0x43E00000#32)
    (FloatOps.maximumf (FloatOps.ofBits .f32 0xC3E00000#32) (FloatOps.divf h s)))
      = min (Ideal.ofBits .f32 0x43E00000#32) (max (Ideal.ofBits .f32 0xC3E00000#32) (Ideal.div h s)) := by
  rw [Ideal.truncf_def, Ideal.minimumf_def, Ideal.maximumf_def, Ideal.divf_def, Ideal.ofBits_def, Ideal.ofBits_def]

theorem code_of (h s : FVec Ideal S7168x8192 .f32) (y : S7168x8192.Idx) :
    (truncf .fp8e4m3 (minimumf (broadcast S7168x8192 (Scalar.ofBits .f32 0x43E00000#32 : Ideal .f32))
      (maximumf (broadcast S7168x8192 (Scalar.ofBits .f32 0xC3E00000#32 : Ideal .f32)) (divf h s))) bitsLt_fp8e4m3_f32 : FVec Ideal S7168x8192 .fp8e4m3) y
      = min (Ideal.ofBits .f32 0x43E00000#32) (max (Ideal.ofBits .f32 0xC3E00000#32) (Ideal.div (h y) (s y))) := clip_at (h y) (s y)

theorem pay3_eq (v u t p : FVec Ideal S7168x8192 .f32) : k0_pay3 v u t p =
    truncf .fp8e4m3 (minimumf (broadcast S7168x8192 (Scalar.ofBits .f32 0x43E00000#32 : Ideal .f32))
      (maximumf (broadcast S7168x8192 (Scalar.ofBits .f32 0xC3E00000#32 : Ideal .f32))
        (divf (k0_pay1 v u t p) (broadcastTo S7168x8192 (k0_pay2 v u t p) broadcasts_S7168x1_S7168x8192)))) bitsLt_fp8e4m3_f32 := by
  unfold k0_pay3; rfl

theorem code_row (r : Fin 7168) (n : Fin 8192) :
    k0_pay3 (F := Ideal) (k0_pay5 A W SA SW B) (k0_pay6 A W SA SW B) (k0_pay7 A W SA SW B) (k0_pay8 A W SA SW B) (ix2 r n) = codeAt A SA W SW B r n :=
  (congrFun (pay3_eq _ _ _ _) _).trans ((code_of _ _ _).trans
    (congrArg₂ (fun a b : EReal => min (Ideal.ofBits .f32 0x43E00000#32) (max (Ideal.ofBits .f32 0xC3E00000#32) (Ideal.div a b)))
      (act_row A SA W SW B r n) ((repeat_at _ broadcasts_S7168x1_S7168x8192 r n).trans (scale_row A SA W SW B r))))

theorem scales_row (r : Fin 7168) (l : Fin 128) :
    k0_pay4 (F := Ideal) (k0_pay5 A W SA SW B) (k0_pay6 A W SA SW B) (k0_pay7 A W SA SW B) (k0_pay8 A W SA SW B) (ix2 r l) = scaleOf (amaxAt A SA W SW B r) := by
  unfold k0_pay4
  refine (repeat_at _ broadcasts_S7168x1_S7168x128 r l).trans ?_
  rw [shapeCast_self]
  exact scale_row A SA W SW B r

theorem out5_eq : out0_5 (F := Ideal) A SA W SW B = fun y => codeAt A SA W SW B (y 0) (y 1) := by
  unfold out0_5 k0_pay12 k0_pay11 k0_pay10 k0_pay9
  rw [canon_unit_zero (by funext a; fin_cases a <;> rfl)]
  repeat rw [ld_unit_zero (by funext a; fin_cases a <;> rfl)]
  funext y
  exact (congrArg _ (eta2 y).symm).trans (code_row A SA W SW B (y 0) (y 1))

theorem out6_eq : out0_6 (F := Ideal) A SA W SW B = fun y => scaleOf (amaxAt A SA W SW B (y 0)) := by
  unfold out0_6 k0_pay12 k0_pay11 k0_pay10 k0_pay9
  rw [canon_unit_zero (by funext a; fin_cases a <;> rfl)]
  repeat rw [ld_unit_zero (by funext a; fin_cases a <;> rfl)]
  funext y
  exact (congrArg _ (eta2 y).symm).trans (scales_row A SA W SW B (y 0) (y 1))
end

variable (m : (ℓ : Loc nD τ sig) → Buf (Elt Ideal) ℓ) (ρ : Dev nD → PrngReg) (c : Dev nD)

theorem idx0 : ∀ t : Fin grid0.N, win0_0.index t = ![0, 0] := by decide +kernel

theorem iblk0_eq (t : Fin cfg0.N) : iblk m c 0 t = m ((c : Thread nD τ).loc main_arg0) := by
  funext y
  have e := idx0 t
  blk_simp [iblk]
  refine congrArg _ ?_
  blk_ext [e]

theorem idx1 : ∀ t : Fin grid0.N, win0_1.index t = ![0, 0] := by decide +kernel

theorem iblk1_eq (t : Fin cfg0.N) : iblk m c 1 t = m ((c : Thread nD τ).loc main_arg1) := by
  funext y
  have e := idx1 t
  blk_simp [iblk]
  refine congrArg _ ?_
  blk_ext [e]

theorem idx2 : ∀ t : Fin grid0.N, win0_2.index t = ![0, 0] := by decide +kernel

theorem iblk2_eq (t : Fin cfg0.N) : iblk m c 2 t = m ((c : Thread nD τ).loc main_arg2) := by
  funext y
  have e := idx2 t
  blk_simp [iblk]
  refine congrArg _ ?_
  blk_ext [e]

theorem idx3 : ∀ t : Fin grid0.N, win0_3.index t = ![0, 0] := by decide +kernel

theorem iblk3_eq (t : Fin cfg0.N) : iblk m c 3 t = m ((c : Thread nD τ).loc main_arg3) := by
  funext y
  have e := idx3 t
  blk_simp [iblk]
  refine congrArg _ ?_
  blk_ext [e]

theorem idx4 : ∀ t : Fin grid0.N, win0_4.index t = ![0, 0] := by decide +kernel

theorem iblk4_eq (t : Fin cfg0.N) : iblk m c 4 t = m ((c : Thread nD τ).loc main_arg4) := by
  funext y
  have e := idx4 t
  blk_simp [iblk]
  refine congrArg _ ?_
  blk_ext [e]

theorem idx5 : ∀ t : Fin grid0.N, win0_5.index t = ![0, 0] := by decide +kernel

theorem idx6 : ∀ t : Fin grid0.N, win0_6.index t = ![0, 0] := by decide +kernel

theorem arr5 : (dats m 0 c).arrAt 5 cfg0.N = fun y => codeAt (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 5 _ (by decide +kernel) fun t hf y => ?_
  have e := idx5 t
  rw [after0_5, iblk0_eq, iblk1_eq, iblk2_eq, iblk3_eq, iblk4_eq, out5_eq]
  have h : (((cfg0.win 5).blk t).view.emb y) = y := by
    blk_ext [e]
  blk_simp
  exact (congrArg (fun y : S7168x8192.Idx => codeAt (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) h).symm

theorem arr6 : (dats m 0 c).arrAt 6 cfg0.N = fun y => scaleOf (amaxAt (m ((c : Thread nD τ).loc main_arg0)) (m ((c : Thread nD τ).loc main_arg1)) (m ((c : Thread nD τ).loc main_arg2)) (m ((c : Thread nD τ).loc main_arg3)) (m ((c : Thread nD τ).loc main_arg4)) (y 0)) := by
  refine (dats m 0 c).arrAt_eq_of_covers 6 _ (by decide +kernel) fun t hf y => ?_
  have e := idx6 t
  rw [after0_6, iblk0_eq, iblk1_eq, iblk2_eq, iblk3_eq, iblk4_eq, out6_eq]
  have h : (((cfg0.win 6).blk t).view.emb y) = y := by
    blk_ext [e]
  blk_simp
  exact (congrArg (fun y : S7168x128.Idx => scaleOf (amaxAt (m ((c : Thread nD τ).loc main_arg0)) (m ((c : Thread nD τ).loc main_arg1)) (m ((c : Thread nD τ).loc main_arg2)) (m ((c : Thread nD τ).loc main_arg3)) (m ((c : Thread nD τ).loc main_arg4)) (y 0))) h).symm

/-- The reference runs, and ends with these codes and scales. -/
theorem run_values : θ_run (defs (F := Ideal)) (onTc (τ := τ) (main (F := Ideal))) ⟨m, fun _ => 0, ρ⟩ (fun r => ∀ c : Dev nD,
    r.2.mem ((c.tc : Thread nD τ).loc main_v0_0) = (fun y => codeAt (m ((c : Thread nD τ).loc main_arg0)) (m ((c : Thread nD τ).loc main_arg1)) (m ((c : Thread nD τ).loc main_arg2)) (m ((c : Thread nD τ).loc main_arg3)) (m ((c : Thread nD τ).loc main_arg4)) (y 0) (y 1))
    ∧ r.2.mem ((c.tc : Thread nD τ).loc main_v0_1) = (fun y => scaleOf (amaxAt (m ((c : Thread nD τ).loc main_arg0)) (m ((c : Thread nD τ).loc main_arg1)) (m ((c : Thread nD τ).loc main_arg2)) (m ((c : Thread nD τ).loc main_arg3)) (m ((c : Thread nD τ).loc main_arg4)) (y 0)))) :=
  (θ_run _ _ _).mono (fun r h c => ⟨(h.out_eq c 5).trans (arr5 m c), (h.out_eq c 6).trans (arr6 m c)⟩) (run_main m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Transfer
public import proofs.«01_k».proof.Proof.KRun
public import proofs.«01_k».proof.Proof.RefValue
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import Idealize.ShloMosaic.Adequacy
public import Idealize.ShloMosaic.Init

@[expose] public section

noncomputable section

namespace Cert.Proof

open Idealize.ShloMosaic Idealize.SL.Sem Cert.Kernel

open Cert.KernelIdeal.Hand (codeAt amaxAt scaleOf)

/-- The codes depend on the arguments only. -/
theorem codes_congr {A A' : Shape.Idx ⟨2, ![7168, 12800]⟩ → EReal} {S S' : Shape.Idx ⟨2, ![7168, 1]⟩ → EReal}
    {W W' : Shape.Idx ⟨2, ![12800, 8192]⟩ → EReal} {V V' B B' : Shape.Idx ⟨2, ![1, 8192]⟩ → EReal}
    (h0 : A' = A) (h1 : S' = S) (h2 : W' = W) (h3 : V' = V) (h4 : B' = B) :
    (fun y : Shape.Idx ⟨2, ![7168, 8192]⟩ => codeAt A' S' W' V' B' (y 0) (y 1)) = fun y => codeAt A S W V B (y 0) (y 1) := by
  subst h0 h1 h2 h3 h4; rfl

/-- The scales depend on the arguments only. -/
theorem scales_congr {A A' : Shape.Idx ⟨2, ![7168, 12800]⟩ → EReal} {S S' : Shape.Idx ⟨2, ![7168, 1]⟩ → EReal}
    {W W' : Shape.Idx ⟨2, ![12800, 8192]⟩ → EReal} {V V' B B' : Shape.Idx ⟨2, ![1, 8192]⟩ → EReal}
    (h0 : A' = A) (h1 : S' = S) (h2 : W' = W) (h3 : V' = V) (h4 : B' = B) :
    (fun y : Shape.Idx ⟨2, ![7168, 128]⟩ => scaleOf (amaxAt A' S' W' V' B' (y 0))) = fun y => scaleOf (amaxAt A S W V B (y 0)) := by
  subst h0 h1 h2 h3 h4; rfl

attribute [local instance] Cert.Kernel.Gen.facts Cert.KernelIdeal.Gen.facts Cert.ReferenceIdeal.Gen.facts

/-- The kernel and the reference end with the same codes and the same scales. -/
theorem algebraic : algebraic_KernelIdeal_ReferenceIdeal := by
  intro m g m' g' _ hargs
  refine ⟨fun c => (fun y : Shape.Idx ⟨2, ![7168, 8192]⟩ => codeAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (y 0) (y 1)),
    fun c => (fun y : Shape.Idx ⟨2, ![7168, 128]⟩ => scaleOf (amaxAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (y 0))), ?_, ?_⟩
  · exact (θ_run (Cert.KernelIdeal.defs (F := Ideal)) (onTc (τ := Cert.KernelIdeal.τ) (Cert.KernelIdeal.main (F := Ideal))) ⟨m, fun _ => 0, g⟩).mono
      (fun r h c => ⟨(h.1 c).1, (h.1 c).2, h.2.1 c⟩)
      (θ_run_and (Cert.KernelIdeal.Hand.run_values m g) (Cert.KernelIdeal.Hand.frame_any m g))
  · exact (θ_run (Cert.ReferenceIdeal.defs (F := Ideal)) (onTc (τ := Cert.ReferenceIdeal.τ) (Cert.ReferenceIdeal.main (F := Ideal))) ⟨m', fun _ => 0, g'⟩).mono
      (fun r h c => ⟨(h.1 c).1.trans (codes_congr (hargs c).1 (hargs c).2.1 (hargs c).2.2.1 (hargs c).2.2.2.1 (hargs c).2.2.2.2),
        (h.1 c).2.trans (scales_congr (hargs c).1 (hargs c).2.1 (hargs c).2.2.1 (hargs c).2.2.2.1 (hargs c).2.2.2.2), h.2.1 c⟩)
      (θ_run_and (Cert.ReferenceIdeal.Hand.run_values m' g') (Cert.ReferenceIdeal.Gen.frame m' g'))

theorem claim : Cert.Claim := ⟨Cert.Kernel.Gen.facts, Cert.KernelIdeal.Gen.facts, Cert.ReferenceIdeal.Gen.facts,
  Cert.Norm.Gen.facts,
  fun m ρ _ => Cert.Kernel.Hand.frame m ρ, fun m ρ _ => Cert.KernelIdeal.Hand.frame_any m ρ, fun m ρ _ => Cert.ReferenceIdeal.Gen.frame m ρ,
  fun m ρ _ => Cert.Norm.Gen.frame m ρ, trivial,
  algebraic⟩

end Cert.Proof

end
